-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x2048 : Shape := ⟨3, ![4, 256, 2048]⟩
abbrev S2048x16 : Shape := ⟨2, ![2048, 16]⟩
abbrev S16x2048x1536 : Shape := ⟨3, ![16, 2048, 1536]⟩
abbrev S16x1536 : Shape := ⟨2, ![16, 1536]⟩
abbrev S16x768x2048 : Shape := ⟨3, ![16, 768, 2048]⟩
abbrev S16x2048 : Shape := ⟨2, ![16, 2048]⟩
abbrev S_ : Shape := ⟨0, ![]⟩

class Facts : Prop where
  bcast_S_S4x256x2048 : S_.BroadcastsInDim S4x256x2048 (![] : Fin 0 → Fin S4x256x2048.rank)
  bcast_S_S2048x16 : S_.BroadcastsInDim S2048x16 (![] : Fin 0 → Fin S2048x16.rank)

variable [Facts]

def fn {F : FTy → Type} [FloatOps F] (main_arg0 : FVec F S4x256x2048 .bf16) (main_arg1 : FVec F S2048x16 .f32) (main_arg2 : FVec F S16x2048x1536 .fp8e4m3) (main_arg3 : FVec F S16x1536 .f32) (main_arg4 : FVec F S16x768x2048 .fp8e4m3) (main_arg5 : FVec F S16x2048 .f32) : IVec S4x256x2048 1 × IVec S2048x16 1 :=
  let main_v0 : FVec F S4x256x2048 .bf16 := Host.absf main_arg0
  let main_cst : FVec F S_ .bf16 := constant S_ .bf16 0x7F80#16
  let main_v1 : FVec F S4x256x2048 .bf16 := broadcastInDim S4x256x2048 ![] bcast_S_S4x256x2048 main_cst
  let main_v2 : IVec S4x256x2048 1 := cmpf .olt main_v0 main_v1
  let main_v3 : FVec F S2048x16 .f32 := Host.absf main_arg1
  let main_cst_0 : FVec F S_ .f32 := constant S_ .f32 0x7F800000#32
  let main_v4 : FVec F S2048x16 .f32 := broadcastInDim S2048x16 ![] bcast_S_S2048x16 main_cst_0
  let main_v5 : IVec S2048x16 1 := cmpf .olt main_v3 main_v4
  (main_v2, main_v5)
-- ==== Kernel.lean ====
abbrev S4x256x2048 : Shape := ⟨3, ![4, 256, 2048]⟩
abbrev S2048x16 : Shape := ⟨2, ![2048, 16]⟩
abbrev S16x2048x1536 : Shape := ⟨3, ![16, 2048, 1536]⟩
abbrev S16x1536 : Shape := ⟨2, ![16, 1536]⟩
abbrev S16x768x2048 : Shape := ⟨3, ![16, 768, 2048]⟩
abbrev S16x2048 : Shape := ⟨2, ![16, 2048]⟩
abbrev S1024x2048 : Shape := ⟨2, ![1024, 2048]⟩
abbrev S16x1x1536 : Shape := ⟨3, ![16, 1, 1536]⟩
abbrev S16x1x2048 : Shape := ⟨3, ![16, 1, 2048]⟩
abbrev S1x2048x1536 : Shape := ⟨3, ![1, 2048, 1536]⟩
abbrev S1x1x1536 : Shape := ⟨3, ![1, 1, 1536]⟩
abbrev S1x768x2048 : Shape := ⟨3, ![1, 768, 2048]⟩
abbrev S1x1x2048 : Shape := ⟨3, ![1, 1, 2048]⟩
abbrev S1024x1 : Shape := ⟨2, ![1024, 1]⟩
abbrev S1024x16 : Shape := ⟨2, ![1024, 16]⟩
abbrev S1024 : Shape := ⟨1, ![1024]⟩
abbrev S256x2048 : Shape := ⟨2, ![256, 2048]⟩
abbrev S2048x1536 : Shape := ⟨2, ![2048, 1536]⟩
abbrev S256x1536 : Shape := ⟨2, ![256, 1536]⟩
abbrev S256x1 : Shape := ⟨2, ![256, 1]⟩
abbrev S1x1536 : Shape := ⟨2, ![1, 1536]⟩
abbrev S256x768 : Shape := ⟨2, ![256, 768]⟩
abbrev S256 : Shape := ⟨1, ![256]⟩
abbrev S768x2048 : Shape := ⟨2, ![768, 2048]⟩
abbrev S1x2048 : Shape := ⟨2, ![1, 2048]⟩

abbrev nBuf : Space → Nat
  | .hbm => 10
  | .vmem => 15
  | .smem => 0
  | _ => 0

abbrev bufTy : (tb : Table) → Fin (tcTables nBuf tb) → BufTy
  | .hbm, ⟨0, _⟩ => ⟨S4x256x2048, .bf16⟩
  | .hbm, ⟨1, _⟩ => ⟨S2048x16, .f32⟩
  | .hbm, ⟨2, _⟩ => ⟨S16x2048x1536, .fp8e4m3⟩
  | .hbm, ⟨3, _⟩ => ⟨S16x1536, .f32⟩
  | .hbm, ⟨4, _⟩ => ⟨S16x768x2048, .fp8e4m3⟩
  | .hbm, ⟨5, _⟩ => ⟨S16x2048, .f32⟩
  | .hbm, ⟨6, _⟩ => ⟨S1024x2048, .bf16⟩
  | .hbm, ⟨7, _⟩ => ⟨S16x1x1536, .f32⟩
  | .hbm, ⟨8, _⟩ => ⟨S16x1x2048, .f32⟩
  | .hbm, ⟨9, _⟩ => ⟨S1024x2048, .bf16⟩
  | .local _ .vmem, ⟨0, _⟩ => ⟨S1024x2048, .bf16⟩
  | .local _ .vmem, ⟨1, _⟩ => ⟨S2048x16, .f32⟩
  | .local _ .vmem, ⟨2, _⟩ => ⟨S1x2048x1536, .fp8e4m3⟩
  | .local _ .vmem, ⟨3, _⟩ => ⟨S1x2048x1536, .fp8e4m3⟩
  | .local _ .vmem, ⟨4, _⟩ => ⟨S1x1x1536, .f32⟩
  | .local _ .vmem, ⟨5, _⟩ => ⟨S1x1x1536, .f32⟩
  | .local _ .vmem, ⟨6, _⟩ => ⟨S1x768x2048, .fp8e4m3⟩
  | .local _ .vmem, ⟨7, _⟩ => ⟨S1x768x2048, .fp8e4m3⟩
  | .local _ .vmem, ⟨8, _⟩ => ⟨S1x1x2048, .f32⟩
  | .local _ .vmem, ⟨9, _⟩ => ⟨S1x1x2048, .f32⟩
  | .local _ .vmem, ⟨10, _⟩ => ⟨S1024x2048, .bf16⟩
  | .local _ .vmem, ⟨11, _⟩ => ⟨S1024x2048, .fp8e4m3⟩
  | .local _ .vmem, ⟨12, _⟩ => ⟨S1024x1, .f32⟩
  | .local _ .vmem, ⟨13, _⟩ => ⟨S1024x16, .f32⟩
  | .local _ .vmem, ⟨14, _⟩ => ⟨S1024x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v575 : BitVec 1 := Scalar.cmpi .eq arg0 c15_i32
  let v576 : BitVec 32 := Scalar.extui v575
  let c0_i32_233 : BitVec 32 := 0#32
  let v577 : BitVec 1 := Scalar.cmpi .ne v576 c0_i32_233
  v577

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x256x2048 : Shape := ⟨3, ![4, 256, 2048]⟩
abbrev S2048x16 : Shape := ⟨2, ![2048, 16]⟩
abbrev S16x2048x1536 : Shape := ⟨3, ![16, 2048, 1536]⟩
abbrev S16x1536 : Shape := ⟨2, ![16, 1536]⟩
abbrev S16x768x2048 : Shape := ⟨3, ![16, 768, 2048]⟩
abbrev S16x2048 : Shape := ⟨2, ![16, 2048]⟩
abbrev S1024x2048 : Shape := ⟨2, ![1024, 2048]⟩
abbrev S1024x16 : Shape := ⟨2, ![1024, 16]⟩
abbrev S1024x8 : Shape := ⟨2, ![1024, 8]⟩
abbrev S_ : Shape := ⟨0, ![]⟩
abbrev S1024 : Shape := ⟨1, ![1024]⟩
abbrev S1024x1 : Shape := ⟨2, ![1024, 1]⟩
abbrev S1x1024x8 : Shape := ⟨3, ![1, 1024, 8]⟩
abbrev S16 : Shape := ⟨1, ![16]⟩
abbrev S16x1x1 : Shape := ⟨3, ![16, 1, 1]⟩
abbrev S16x1024x8 : Shape := ⟨3, ![16, 1024, 8]⟩
abbrev S16x1024 : Shape := ⟨2, ![16, 1024]⟩
abbrev S16x1024x1 : Shape := ⟨3, ![16, 1024, 1]⟩
abbrev S16x1x1536 : Shape := ⟨3, ![16, 1, 1536]⟩
abbrev S16x1x2048 : Shape := ⟨3, ![16, 1, 2048]⟩
abbrev S1024x270 : Shape := ⟨2, ![1024, 270]⟩
abbrev S1x1024x2048 : Shape := ⟨3, ![1, 1024, 2048]⟩
abbrev S16x1024x2048 : Shape := ⟨3, ![16, 1024, 2048]⟩
abbrev S16x1024x1536 : Shape := ⟨3, ![16, 1024, 1536]⟩
abbrev S1x1024x1 : Shape := ⟨3, ![1, 1024, 1]⟩
abbrev S16x1024x768 : Shape := ⟨3, ![16, 1024, 768]⟩
abbrev S16x1024x270 : Shape := ⟨3, ![16, 1024, 270]⟩

abbrev nBuf : Space → Nat
  | .hbm => 43
  | .vmem => 7
  | .smem => 0
  | _ => 0

abbrev bufTy : (tb : Table) → Fin (tcTables nBuf tb) → BufTy
  | .hbm, ⟨0, _⟩ => ⟨S4x256x2048, .bf16⟩
  | .hbm, ⟨1, _⟩ => ⟨S2048x16, .f32⟩
  | .hbm, ⟨2, _⟩ => ⟨S16x2048x1536, .fp8e4m3⟩
  | .hbm, ⟨3, _⟩ => ⟨S16x1536, .f32⟩
  | .hbm, ⟨4, _⟩ => ⟨S16x768x2048, .fp8e4m3⟩
  | .hbm, ⟨5, _⟩ => ⟨S16x2048, .f32⟩
  | .hbm, ⟨6, _⟩ => ⟨S1024x2048, .bf16⟩
  | .hbm, ⟨7, _⟩ => ⟨S1024x2048, .f32⟩
  | .hbm, ⟨8, _⟩ => ⟨S1024x16, .f32⟩
  | .hbm, ⟨9, _⟩ => ⟨S1024x8, .f32⟩
  | .hbm, ⟨10, _⟩ => ⟨S1024x8, .i32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024x1, .f32⟩
  | .hbm, ⟨17, _⟩ => ⟨S1024x8, .f32⟩
  | .hbm, ⟨18, _⟩ => ⟨S1024x8, .f32⟩
  | .hbm, ⟨19, _⟩ => ⟨S1024x8, .f32⟩
  | .hbm, ⟨20, _⟩ => ⟨S_, .f32⟩
  | .hbm, ⟨21, _⟩ => ⟨S1024, .f32⟩
  | .hbm, ⟨22, _⟩ => ⟨S1024x1, .f32⟩
  | .hbm, ⟨23, _⟩ => ⟨S1024x8, .f32⟩
  | .hbm, ⟨24, _⟩ => ⟨S1024x8, .f32⟩
  | .hbm, ⟨25, _⟩ => ⟨S1x1024x8, .i32⟩
  | .hbm, ⟨26, _⟩ => ⟨S16, .i32⟩
  | .hbm, ⟨27, _⟩ => ⟨S16x1x1, .i32⟩
  | .hbm, ⟨28, _⟩ => ⟨S16x1024x8, .i32⟩
  | .hbm, ⟨29, _⟩ => ⟨S16x1024x8, .i32⟩
  | .hbm, ⟨30, _⟩ => ⟨S16x1024x8, .i1⟩
  | .hbm, ⟨31, _⟩ => ⟨S1x1024x8, .f32⟩
  | .hbm, ⟨32, _⟩ => ⟨S_, .f32⟩
  | .hbm, ⟨33, _⟩ => ⟨S_, .f32⟩
  | .hbm, ⟨34, _⟩ => ⟨S16x1024x8, .f32⟩
  | .hbm, ⟨35, _⟩ => ⟨S16x1024x8, .f32⟩
  | .hbm, ⟨36, _⟩ => ⟨S16x1024x8, .f32⟩
  | .hbm, ⟨37, _⟩ => ⟨S_, .f32⟩
  | .hbm, ⟨38, _⟩ => ⟨S16x1024, .f32⟩
  | .hbm, ⟨39, _⟩ => ⟨S16x1024x1, .f32⟩
  | .hbm, ⟨40, _⟩ => ⟨S16x1x1536, .f32⟩
  | .hbm, ⟨41, _⟩ => ⟨S16x1x2048, .f32⟩
  | .hbm, ⟨42, _⟩ => ⟨S1024x2048, .bf16⟩
  | .local _ .vmem, ⟨0, _⟩ => ⟨S1024x2048, .bf16⟩
  | .local _ .vmem, ⟨1, _⟩ => ⟨S16x1024x1, .f32⟩
  | .local _ .vmem, ⟨2, _⟩ => ⟨S16x2048x1536, .fp8e4m3⟩
  | .local _ .vmem, ⟨3, _⟩ => ⟨S16x1x1536, .f32⟩
  | .local _ .vmem, ⟨4, _⟩ => ⟨S16x768x2048, .fp8e4m3⟩
  | .local _ .vmem, ⟨5, _⟩ => ⟨S16x1x2048, .f32⟩
  | .local _ .vmem, ⟨6, _⟩ => ⟨S1024x2048, .bf16⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x768x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelBlock.lean ====
/-
  The kernel's block of 256 rows, as one vector function. Its four row blocks are the same mathematics printed four times,
  cut into payloads at different places; each equals `rowsV` of its slices. The exponent search is `stepV` eight times.
-/
module

public import proofs.«01_k».proof.Proof.Gen.KernelIdeal.Skeleton

@[expose] public section

noncomputable section

namespace Cert.KernelIdeal.Block

open Cert.KernelIdeal Cert.KernelIdeal.Gen Idealize.ShloMosaic Idealize.ShloMosaic.TcCoe Idealize.SL.Sem

variable {F : FTy → Type} [FloatOps F]

/-- One step of the exponent search, over a vector. -/
def stepV {s : Shape} (v : FVec F s .f32) (k : BitVec 32) (f : IVec s 32) : IVec s 32 :=
  select (cmpf .olt v (bitcastToFloat .f32 (shli (addi f (broadcast s k)) (broadcast s 23#32)))) f (addi f (broadcast s k))

/-- The eight steps. -/
def fieldV {s : Shape} (v : FVec F s .f32) : IVec s 32 :=
  stepV v 1#32 (stepV v 2#32 (stepV v 4#32 (stepV v 8#32 (stepV v 16#32 (stepV v 32#32 (stepV v 64#32 (stepV v 128#32 (broadcast s 0#32))))))))

/-- The exponent of a column of largest magnitudes times 1/448. -/
def expoV {s : Shape} (v : FVec F s .f32) : IVec s 32 :=
  select (cmpf .olt v (broadcast s (Scalar.ofBits .f32 0x00800000#32))) (broadcast s 0#32)
    (subi (fieldV (minimumf v (broadcast s (Scalar.ofBits .f32 0x7B800000#32)))) (broadcast s 126#32))

def scaleV {s : Shape} (v : FVec F s .f32) : FVec F s .f32 :=
  bitcastToFloat .f32 (shli (addi (expoV v) (broadcast s 127#32)) (broadcast s 23#32))

def invV {s : Shape} (v : FVec F s .f32) : FVec F s .f32 :=
  bitcastToFloat .f32 (shli (subi (broadcast s 127#32) (expoV v)) (broadcast s 23#32))

/-- The column of largest magnitudes times 1/448 of a block of activations. -/
def amaxV (act : FVec F S256x768 .f32) : FVec F S256x1 .f32 :=
  mulf (shapeCast S256x1 (multiReduction .maximumf [1] S256 (absf act) 0xFF800000#32 reduces_S256x768_S256 (.inl rfl) rfl) shapeCasts_S256_S256x1)
    (broadcast S256x1 (Scalar.ofBits .f32 0x3B124925#32))

/-- The codes of a block of activations. -/
def codesV (act : FVec F S256x768 .f32) : FVec F S256x768 .fp8e4m3 :=
  truncf .fp8e4m3 (minimumf (broadcast S256x768 (Scalar.ofBits .f32 0x43E00000#32))
    (maximumf (broadcast S256x768 (Scalar.ofBits .f32 0xC3E00000#32))
      (mulf act (broadcastTo S256x768 (invV (amaxV act)) broadcasts_S256x1_S256x768)))) bitsLt_fp8e4m3_f32

/-- What a block stores: the accumulator plus the expert's rows where the gate is positive. -/
def rowsV (g : FVec F S256x1 .f32) (act : FVec F S256x768 .f32) (wdn : Vec F S1x768x2048 .fp8e4m3) (sdn : Vec F S1x1x2048 .f32)
    (acc : Vec F S256x2048 .f32) : FVec F S256x2048 .f32 :=
  shapeCast S256x2048 (addf acc (select
    (broadcastTo S256x2048 (shapeCast S256x1 (cmpf .ogt g (broadcast S256x1 (Scalar.ofBits .f32 0x00000000#32))) shapeCasts_S256x1_S256x1) broadcasts_S256x1_S256x2048)
    (mulf (mulf (matmul dot_S256x768_S768x2048_S256x2048_1_0_0_1_n_n none (codesV act) (shapeCast S768x2048 wdn shapeCasts_S1x768x2048_S768x2048) (constant S256x2048 .f32 0x00000000#32))
        (broadcastTo S256x2048 (mulf (scaleV (amaxV act)) g) broadcasts_S256x1_S256x2048))
      (broadcastTo S256x2048 (shapeCast S1x2048 sdn shapeCasts_S1x1x2048_S1x2048) broadcasts_S1x2048_S256x2048))
    (broadcast S256x2048 (Scalar.ofBits .f32 0x00000000#32)))) shapeCasts_S256x2048_S256x2048

variable (a : Vec F S256x2048 .fp8e4m3) (b : Vec F S1x2048x1536 .fp8e4m3) (x : Vec F S256x1 .f32) (d : Vec F S1x1x1536 .f32)
  (v10 : FVec F S1024x1 .f32) (w : Vec F S1x768x2048 .fp8e4m3) (s : Vec F S1x1x2048 .f32) (acc : Vec F S256x2048 .f32)

theorem block0 :
    k0_pay33 v10 (k0_pay31 (k0_pay24 a b x d) (k0_pay25 a b x d) (k0_pay28 (k0_pay25 a b x d) k0_pay26 k0_pay27) k0_pay29)
      (k0_pay32 (k0_pay23 a b x d) (k0_pay24 a b x d) (k0_pay25 a b x d) (k0_pay28 (k0_pay25 a b x d) k0_pay26 k0_pay27) k0_pay29)
      (FloatOps.ofBits .f32 0xC3E00000#32) w s acc =
    rowsV (extractStridedSlice S256x1 ![0, 0] v10 slices_S1024x1_o0_0_S256x1) (k0_pay23 a b x d) w s acc := rfl

theorem block1 :
    k0_pay42 (k0_pay41 v10 (k0_pay35 (k0_pay34 a b x) d) (k0_pay36 (k0_pay34 a b x) d)
      (k0_pay40 (k0_pay37 (k0_pay34 a b x) d) (k0_pay38 (k0_pay34 a b x) d) (k0_pay39 (k0_pay34 a b x) d)) w s acc) =
    rowsV (extractStridedSlice S256x1 ![256, 0] v10 slices_S1024x1_o256_0_S256x1) (k0_pay23 a b x d) w s acc := rfl

theorem block2 :
    k0_pay54
      (k0_pay51 (k0_pay44 a b x d) (k0_pay45 a b x d)
        (k0_pay48 (k0_pay45 a b x d) (k0_pay46 a b x d) (k0_pay47 a b x d) 23#32)
        (k0_pay49 (k0_pay45 a b x d) (k0_pay46 a b x d) (k0_pay47 a b x d) 23#32) 23#32)
      (k0_pay52 (k0_pay43 a b x d) (k0_pay44 a b x d) (k0_pay45 a b x d)
        (k0_pay48 (k0_pay45 a b x d) (k0_pay46 a b x d) (k0_pay47 a b x d) 23#32)
        (k0_pay49 (k0_pay45 a b x d) (k0_pay46 a b x d) (k0_pay47 a b x d) 23#32) 23#32 w)
      (k0_pay53 v10) s acc =
    rowsV (extractStridedSlice S256x1 ![512, 0] v10 slices_S1024x1_o512_0_S256x1) (k0_pay23 a b x d) w s acc := rfl

theorem block3 :
    k0_pay1 (k0_pay64 v10 (k0_pay55 a b x d)
      (k0_pay62 (k0_pay57 (k0_pay56 a b x d) (FloatOps.ofBits .f32 0x3B124925#32)) (k0_pay58 (k0_pay56 a b x d) (FloatOps.ofBits .f32 0x3B124925#32))
        (k0_pay59 (k0_pay56 a b x d) (FloatOps.ofBits .f32 0x3B124925#32)) (k0_pay60 (k0_pay56 a b x d) (FloatOps.ofBits .f32 0x3B124925#32)) k0_pay61)
      (k0_pay63 (k0_pay57 (k0_pay56 a b x d) (FloatOps.ofBits .f32 0x3B124925#32)) (k0_pay58 (k0_pay56 a b x d) (FloatOps.ofBits .f32 0x3B124925#32))
        (k0_pay59 (k0_pay56 a b x d) (FloatOps.ofBits .f32 0x3B124925#32)) (k0_pay60 (k0_pay56 a b x d) (FloatOps.ofBits .f32 0x3B124925#32)) k0_pay61)
      127#32 w s acc) =
    rowsV (extractStridedSlice S256x1 ![768, 0] v10 slices_S1024x1_o768_0_S256x1) (k0_pay23 a b x d) w s acc := rfl

end Cert.KernelIdeal.Block

end
-- ==== Proof.Quantiser.lean ====
/-
  The quantiser's scale, on the extended reals. The kernel finds the exponent field of `v = amax / 448` by eight binary
  search steps against words `f << 23` read as float32; the reference takes the least whole `k` with `2 ^ k > v`. Where
  `v` is at least the least normal float32 the two scales are equal; below it the kernel's scale is one and the
  reference's is some power of two that clips nothing, and a dot product of the codes times the scale is the same.
-/
module

public import Idealize.ShloMosaic.Init
public import Idealize.ShloMosaic.PureOps.Ideal.Laws
public import Idealize.ShloMosaic.Lib.IdealHost

@[expose] public section

noncomputable section

namespace Cert.Quantiser

open Idealize.ShloMosaic

/-- The float32 nearest 1/448. -/
def cQ : EReal := Ideal.ofBits .f32 0x3B124925#32

/-- The word with exponent field `f` and no fraction, read as a float32. -/
def thr (f : BitVec 32) : EReal := Ideal.ofBits .f32 (f <<< 23)

/-- One step of the binary search: add `k` to the field unless that passes `v`. -/
def kStep (v : EReal) (k f : BitVec 32) : BitVec 32 := if v < thr (f + k) then f else f + k

/-- The eight steps. -/
def kField (v : EReal) : BitVec 32 :=
  kStep v 1#32 (kStep v 2#32 (kStep v 4#32 (kStep v 8#32 (kStep v 16#32 (kStep v 32#32 (kStep v 64#32 (kStep v 128#32 0#32)))))))

/-- The kernel's exponent of a row with largest magnitude `a`. -/
def kE (a : EReal) : BitVec 32 :=
  if a * cQ < Ideal.ofBits .f32 0x00800000#32 then 0#32 else kField (min (a * cQ) (Ideal.ofBits .f32 0x7B800000#32)) - 126#32

def kScale (a : EReal) : EReal := thr (kE a + 127#32)
def kInv (a : EReal) : EReal := thr (127#32 - kE a)

/-- The reference's candidate exponents, -148 to 121. -/
def rK (k : Fin 270) : EReal := (((((k : ℕ) : ℤ) - 148 : ℤ) : ℝ) : EReal)

/-- The reference's exponent of a row with largest magnitude `a`. -/
def rE (a : EReal) : EReal :=
  if a = 0 then 0 else Finset.univ.fold min ⊤ fun k : Fin 270 => if a * cQ < Ideal.exp2 (rK k) then rK k else ((121 : ℝ) : EReal)

def rScale (a : EReal) : EReal := Ideal.exp2 (rE a)
def rInv (a : EReal) : EReal := Ideal.exp2 (0 - rE a)

/-- The largest magnitude of a row. -/
def amax {n : ℕ} (x : Fin n → EReal) : EReal := Finset.univ.fold max ⊥ fun k => max (x k) (-(x k))

/-- A code: the value times the inverse scale, clipped to the largest fp8 magnitude. -/
def code (inv v : EReal) : EReal := min ((448 : ℝ) : EReal) (max ((-448 : ℝ) : EReal) (v * inv))

/-! ## The words -/

theorem ieee_pow (n : ℕ) (h1 : 1 ≤ n) (h2 : n ≤ 254) :
    Ideal.ofBits .f32 (BitVec.ofNat 32 n <<< 23) = (((2 : ℝ) ^ ((n : ℤ) - 127) : ℝ) : EReal) := by
  have hw : (BitVec.ofNat 32 n <<< 23).toNat = n * 2 ^ 23 := by
    rw [BitVec.toNat_shiftLeft, BitVec.toNat_ofNat, Nat.shiftLeft_eq]; omega
  have hneg : (BitVec.ofNat 32 n <<< 23).extractLsb' 31 1 = 0#1 := by
    apply BitVec.eq_of_toNat_eq
    rw [BitVec.extractLsb'_toNat, hw, Nat.shiftRight_eq_div_pow]
    show _ = 0
    omega
  have hex : ((BitVec.ofNat 32 n <<< 23).extractLsb' 23 8).toNat = n := by
    rw [BitVec.extractLsb'_toNat, hw, Nat.shiftRight_eq_div_pow]; omega
  have hfr : ((BitVec.ofNat 32 n <<< 23).extractLsb' 0 23).toNat = 0 := by
    rw [BitVec.extractLsb'_toNat, hw, Nat.shiftRight_eq_div_pow]; omega
  have e : Ideal.ofBits .f32 (BitVec.ofNat 32 n <<< 23) = Ideal.ieee 8 23 (BitVec.ofNat 32 n <<< 23) := rfl
  rw [e]
  unfold Ideal.ieee
  simp only [show (8 + 23 : ℕ) = 31 from rfl, hneg, hex, hfr]
  rw [if_neg (by omega), if_neg (by omega)]
  refine congrArg Real.toEReal ?_
  have hb : ((2 : ℤ) ^ (8 - 1) - 1) = 127 := by norm_num
  have h : ((2 : ℝ) ^ ((n : ℤ) - 127 - (23 : ℕ))) = (2 : ℝ) ^ ((n : ℤ) - 127) / 8388608 := by
    rw [zpow_sub₀ (by norm_num), zpow_natCast]; norm_num
  rw [hb, h]
  generalize (2 : ℝ) ^ ((n : ℤ) - 127) = t
  norm_num
  ring

theorem thr_pow (n : ℕ) (h1 : 1 ≤ n) (h2 : n ≤ 254) :
    thr (BitVec.ofNat 32 n) = (((2 : ℝ) ^ ((n : ℤ) - 127) : ℝ) : EReal) := ieee_pow n h1 h2

theorem thr_top : thr (BitVec.ofNat 32 255) = ⊤ := by
  have e : thr (BitVec.ofNat 32 255) = Ideal.ieee 8 23 (BitVec.ofNat 32 255 <<< 23) := rfl
  have h1 : ((BitVec.ofNat 32 255 <<< 23).extractLsb' 23 8).toNat = 255 := rfl
  have h2 : ((BitVec.ofNat 32 255 <<< 23).extractLsb' 0 23).toNat = 0 := rfl
  have h3 : (BitVec.ofNat 32 255 <<< 23).extractLsb' 31 1 = 0#1 := rfl
  rw [e]; unfold Ideal.ieee; simp [h1, h2, h3]

theorem ofBits_tiny : Ideal.ofBits .f32 0x00800000#32 = (((2 : ℝ) ^ (-126 : ℤ) : ℝ) : EReal) := by
  have h := ieee_pow 1 (by norm_num) (by norm_num)
  have e : (BitVec.ofNat 32 1 <<< 23) = 0x00800000#32 := rfl
  rw [e] at h; rw [h]; norm_num

theorem ofBits_cap : Ideal.ofBits .f32 0x7B800000#32 = (((2 : ℝ) ^ (120 : ℤ) : ℝ) : EReal) := by
  have h := ieee_pow 247 (by norm_num) (by norm_num)
  have e : (BitVec.ofNat 32 247 <<< 23) = 0x7B800000#32 := rfl
  rw [e] at h; rw [h]; norm_num

theorem ofBits_448 : Ideal.ofBits .f32 0x43E00000#32 = ((448 : ℝ) : EReal) := by
  have e : Ideal.ofBits .f32 0x43E00000#32 = Ideal.ieee 8 23 (0x43E00000#32) := rfl
  have h1 : ((0x43E00000#32).extractLsb' 23 8).toNat = 135 := rfl
  have h2 : ((0x43E00000#32).extractLsb' 0 23).toNat = 6291456 := rfl
  have h3 : (0x43E00000#32).extractLsb' 31 1 = 0#1 := rfl
  rw [e]; unfold Ideal.ieee; simp only [show (8 + 23 : ℕ) = 31 from rfl, h1, h2, h3]
  norm_num

theorem ofBits_neg448 : Ideal.ofBits .f32 0xC3E00000#32 = ((-448 : ℝ) : EReal) := by
  have e : Ideal.ofBits .f32 0xC3E00000#32 = Ideal.ieee 8 23 (0xC3E00000#32) := rfl
  have h1 : ((0xC3E00000#32).extractLsb' 23 8).toNat = 135 := rfl
  have h2 : ((0xC3E00000#32).extractLsb' 0 23).toNat = 6291456 := rfl
  have h3 : (0xC3E00000#32).extractLsb' 31 1 = 1#1 := rfl
  rw [e]; unfold Ideal.ieee; simp only [show (8 + 23 : ℕ) = 31 from rfl, h1, h2, h3]
  norm_num

theorem ofBits_121 : Ideal.ofBits .f32 0x42F20000#32 = ((121 : ℝ) : EReal) := by
  have e : Ideal.ofBits .f32 0x42F20000#32 = Ideal.ieee 8 23 (0x42F20000#32) := rfl
  have h1 : ((0x42F20000#32).extractLsb' 23 8).toNat = 133 := rfl
  have h2 : ((0x42F20000#32).extractLsb' 0 23).toNat = 7471104 := rfl
  have h3 : (0x42F20000#32).extractLsb' 31 1 = 0#1 := rfl
  rw [e]; unfold Ideal.ieee; simp only [show (8 + 23 : ℕ) = 31 from rfl, h1, h2, h3]
  norm_num

theorem ofBits_ninf : Ideal.ofBits .f32 0xFF800000#32 = ⊥ := by
  have e : Ideal.ofBits .f32 0xFF800000#32 = Ideal.ieee 8 23 (0xFF800000#32) := rfl
  have h1 : ((0xFF800000#32).extractLsb' 23 8).toNat = 255 := rfl
  have h2 : ((0xFF800000#32).extractLsb' 0 23).toNat = 0 := rfl
  have h3 : (0xFF800000#32).extractLsb' 31 1 = 1#1 := rfl
  rw [e]; unfold Ideal.ieee; simp [h1, h2, h3]

theorem ofBits_inf : Ideal.ofBits .f32 0x7F800000#32 = ⊤ := by
  have e : Ideal.ofBits .f32 0x7F800000#32 = Ideal.ieee 8 23 (0x7F800000#32) := rfl
  have h1 : ((0x7F800000#32).extractLsb' 23 8).toNat = 255 := rfl
  have h2 : ((0x7F800000#32).extractLsb' 0 23).toNat = 0 := rfl
  have h3 : (0x7F800000#32).extractLsb' 31 1 = 0#1 := rfl
  rw [e]; unfold Ideal.ieee; simp [h1, h2, h3]

/-- The constant `cQ` as a real. -/
def cR : ℝ := 9586981 / 2 ^ 32

theorem cQ_eq : cQ = ((cR : ℝ) : EReal) := by
  have e : cQ = Ideal.ieee 8 23 (0x3B124925#32) := rfl
  have h1 : ((0x3B124925#32).extractLsb' 23 8).toNat = 118 := rfl
  have h2 : ((0x3B124925#32).extractLsb' 0 23).toNat = 1198373 := rfl
  have h3 : (0x3B124925#32).extractLsb' 31 1 = 0#1 := rfl
  rw [e]; unfold Ideal.ieee; simp only [show (8 + 23 : ℕ) = 31 from rfl, h1, h2, h3]
  unfold cR
  norm_num

/-! ## The binary search -/

/-- The thresholds, as a function of the field. -/
def tN (n : ℕ) : EReal := if n = 255 then ⊤ else if n = 0 then 0 else (((2 : ℝ) ^ ((n : ℤ) - 127) : ℝ) : EReal)

theorem thr_tN (n : ℕ) (h1 : 1 ≤ n) (h2 : n ≤ 255) : thr (BitVec.ofNat 32 n) = tN n := by
  unfold tN
  by_cases h : n = 255
  · subst h; rw [if_pos rfl]; exact thr_top
  · rw [if_neg h, if_neg (by omega)]; exact thr_pow n h1 (by omega)

/-- What a partial search knows: the threshold of `f` is at most `v`, that of `f + w` is above it. -/
def Inv (v : EReal) (w f : ℕ) : Prop := f + w ≤ 256 ∧ tN f ≤ v ∧ (v < tN (f + w) ∨ f + w = 256)

theorem step_inv (v : EReal) (k f : ℕ) (hk : 1 ≤ k) (h : Inv v (2 * k) f) :
    ∃ f', kStep v (BitVec.ofNat 32 k) (BitVec.ofNat 32 f) = BitVec.ofNat 32 f' ∧ Inv v k f' := by
  obtain ⟨h0, h1, h2⟩ := h
  have e : BitVec.ofNat 32 f + BitVec.ofNat 32 k = BitVec.ofNat 32 (f + k) := (BitVec.ofNat_add f k).symm
  unfold kStep
  rw [e, thr_tN (f + k) (by omega) (by omega)]
  by_cases hv : v < tN (f + k)
  · rw [if_pos hv]; exact ⟨f, rfl, by omega, h1, Or.inl hv⟩
  · rw [if_neg hv]
    refine ⟨f + k, rfl, by omega, not_lt.mp hv, ?_⟩
    rw [show f + k + k = f + 2 * k by ring]; exact h2

theorem field_inv (v : EReal) (hv : 0 ≤ v) : ∃ f, kField v = BitVec.ofNat 32 f ∧ Inv v 1 f := by
  have i0 : Inv v (2 * 128) 0 := ⟨by norm_num, by simpa [tN] using hv, Or.inr rfl⟩
  obtain ⟨f1, e1, i1⟩ := step_inv v 128 0 (by norm_num) i0
  obtain ⟨f2, e2, i2⟩ := step_inv v 64 f1 (by norm_num) i1
  obtain ⟨f3, e3, i3⟩ := step_inv v 32 f2 (by norm_num) i2
  obtain ⟨f4, e4, i4⟩ := step_inv v 16 f3 (by norm_num) i3
  obtain ⟨f5, e5, i5⟩ := step_inv v 8 f4 (by norm_num) i4
  obtain ⟨f6, e6, i6⟩ := step_inv v 4 f5 (by norm_num) i5
  obtain ⟨f7, e7, i7⟩ := step_inv v 2 f6 (by norm_num) i6
  obtain ⟨f8, e8, i8⟩ := step_inv v 1 f7 (by norm_num) i7
  refine ⟨f8, ?_, i8⟩
  unfold kField
  rw [e1, e2, e3, e4, e5, e6, e7, e8]

theorem zpow_lt_of {a b : ℤ} (h : ((2 : ℝ) ^ a) < (2 : ℝ) ^ b) : a < b := (zpow_lt_zpow_iff_right₀ (by norm_num)).mp h
theorem zpow_le_of {a b : ℤ} (h : ((2 : ℝ) ^ a) ≤ (2 : ℝ) ^ b) : a ≤ b := (zpow_le_zpow_iff_right₀ (by norm_num)).mp h
theorem le_zpow_of {a b : ℤ} (h : a ≤ b) : ((2 : ℝ) ^ a) ≤ (2 : ℝ) ^ b := zpow_le_zpow_right₀ (by norm_num) h

/-- Where the value is at least the least normal: the field found, and the bounds it means. -/
theorem field_spec (v : EReal) (h1 : (((2 : ℝ) ^ (-126 : ℤ) : ℝ) : EReal) ≤ v) :
    ∃ r : ℕ, 1 ≤ r ∧ r ≤ 247 ∧ kField (min v (((2 : ℝ) ^ (120 : ℤ) : ℝ) : EReal)) = BitVec.ofNat 32 r ∧
      (((2 : ℝ) ^ ((r : ℤ) - 127) : ℝ) : EReal) ≤ v ∧
      (v < (((2 : ℝ) ^ ((r : ℤ) - 126) : ℝ) : EReal) ∨ r = 247) := by
  set w := min v (((2 : ℝ) ^ (120 : ℤ) : ℝ) : EReal) with hw
  have hw1 : (((2 : ℝ) ^ (-126 : ℤ) : ℝ) : EReal) ≤ w :=
    le_min h1 (EReal.coe_le_coe_iff.mpr (le_zpow_of (by norm_num)))
  have hw0 : 0 ≤ w := le_trans (EReal.coe_nonneg.mpr (by positivity)) hw1
  obtain ⟨f, ef, hf0, hf1, hf2⟩ := field_inv w hw0
  have hwc : w ≤ (((2 : ℝ) ^ (120 : ℤ) : ℝ) : EReal) := min_le_right _ _
  have hne : f ≠ 255 := by
    rintro rfl
    rw [tN, if_pos rfl, top_le_iff] at hf1
    rw [hf1] at hwc
    exact absurd hwc (not_le.mpr (EReal.coe_lt_top _))
  have hne0 : f ≠ 0 := by
    rintro rfl
    rcases hf2 with h | h
    · rw [tN, if_neg (by norm_num), if_neg (by norm_num)] at h
      exact absurd (lt_of_le_of_lt hw1 h) (by norm_num)
    · norm_num at h
  have hf1' : (((2 : ℝ) ^ ((f : ℤ) - 127) : ℝ) : EReal) ≤ w := by
    rw [tN, if_neg hne, if_neg hne0] at hf1; exact hf1
  have hle : f ≤ 247 := by
    have := zpow_le_of (EReal.coe_le_coe_iff.mp (le_trans hf1' hwc)); omega
  refine ⟨f, by omega, hle, ef, le_trans hf1' (min_le_left _ _), ?_⟩
  by_cases h247 : f = 247
  · exact Or.inr h247
  · left
    rcases hf2 with h | h
    · rw [tN, if_neg (by omega), if_neg (by omega)] at h
      have h' : w < (((2 : ℝ) ^ ((f : ℤ) - 126) : ℝ) : EReal) := by
        have : ((f + 1 : ℕ) : ℤ) - 127 = (f : ℤ) - 126 := by push_cast; ring
        rwa [this] at h
      rcases min_lt_iff.mp h' with h'' | h''
      · exact h''
      · have := zpow_lt_of (EReal.coe_lt_coe_iff.mp h''); omega
    · omega

theorem exp2_int (k : ℤ) : Ideal.exp2 (((k : ℝ)) : EReal) = (((2 : ℝ) ^ k : ℝ) : EReal) := by
  rw [Ideal.exp2_coe]; congr 1; exact Real.rpow_intCast 2 k

/-- The reference's exponent where the field is `r`. -/
theorem rE_spec (a : EReal) (r : ℕ) (h1 : 1 ≤ r) (h2 : r ≤ 247) (ha : a ≠ 0)
    (hlo : (((2 : ℝ) ^ ((r : ℤ) - 127) : ℝ) : EReal) ≤ a * cQ)
    (hhi : a * cQ < (((2 : ℝ) ^ ((r : ℤ) - 126) : ℝ) : EReal) ∨ r = 247) :
    rE a = ((((r : ℤ) - 126 : ℤ) : ℝ) : EReal) := by
  unfold rE
  rw [if_neg ha]
  apply le_antisymm
  · rw [Finset.fold_min_le]
    right
    refine ⟨⟨r + 22, by omega⟩, Finset.mem_univ _, ?_⟩
    have e : rK ⟨r + 22, by omega⟩ = ((((r : ℤ) - 126 : ℤ) : ℝ) : EReal) := by
      unfold rK; congr 2; push_cast; ring
    rw [e, exp2_int]
    split
    · exact le_rfl
    · rename_i hn
      rcases hhi with h | h
      · exact absurd h hn
      · subst h; norm_num
  · rw [Finset.le_fold_min]
    refine ⟨le_top, fun k _ => ?_⟩
    split
    · rename_i h
      unfold rK at h ⊢
      rw [exp2_int] at h
      have := zpow_lt_of (EReal.coe_lt_coe_iff.mp (lt_of_le_of_lt hlo h))
      rw [EReal.coe_le_coe_iff]
      exact_mod_cast (by omega : (r : ℤ) - 126 ≤ (k : ℕ) - 148)
    · rw [EReal.coe_le_coe_iff]
      have : ((r : ℤ) - 126) ≤ 121 := by omega
      exact_mod_cast this

/-- At or above the least normal, the kernel's scale and inverse are the reference's. -/
theorem scale_eq (a : EReal) (h1 : (((2 : ℝ) ^ (-126 : ℤ) : ℝ) : EReal) ≤ a * cQ) :
    kScale a = rScale a ∧ kInv a = rInv a := by
  obtain ⟨r, hr1, hr2, hf, hlo, hhi⟩ := field_spec (a * cQ) h1
  have ha : a ≠ 0 := by
    rintro rfl
    rw [zero_mul] at h1
    exact absurd h1 (not_le.mpr (EReal.coe_pos.mpr (by positivity)))
  have hE := rE_spec a r hr1 hr2 ha hlo hhi
  have hk : kE a = BitVec.ofNat 32 r - 126#32 := by
    unfold kE
    rw [ofBits_tiny, ofBits_cap, if_neg (not_lt.mpr h1), hf]
  constructor
  · unfold kScale rScale
    rw [hE, exp2_int, hk]
    have e : BitVec.ofNat 32 r - 126#32 + 127#32 = BitVec.ofNat 32 (r + 1) := by
      interval_cases r <;> rfl
    rw [e, thr_pow (r + 1) (by omega) (by omega)]
    congr 2; push_cast; ring
  · unfold kInv rInv
    have e0 : (0 : EReal) - ((((r : ℤ) - 126 : ℤ) : ℝ) : EReal) = (((126 - (r : ℤ) : ℤ) : ℝ) : EReal) := by
      rw [zero_sub, ← EReal.coe_neg]; congr 1; push_cast; ring
    rw [hE, e0, exp2_int, hk]
    have e : 127#32 - (BitVec.ofNat 32 r - 126#32) = BitVec.ofNat 32 (253 - r) := by
      interval_cases r <;> rfl
    rw [e, thr_pow (253 - r) (by omega) (by omega)]
    congr 2; omega

/-- Below the least normal the kernel's scale and inverse are one. -/
theorem kscale_tiny (a : EReal) (h1 : a * cQ < (((2 : ℝ) ^ (-126 : ℤ) : ℝ) : EReal)) : kScale a = 1 ∧ kInv a = 1 := by
  have hk : kE a = 0#32 := by unfold kE; rw [ofBits_tiny, if_pos h1]
  have h : thr 127#32 = 1 := by
    have := thr_pow 127 (by norm_num) (by norm_num)
    rw [show (BitVec.ofNat 32 127) = 127#32 from rfl] at this
    rw [this]; norm_num
  unfold kScale kInv
  rw [hk]
  exact ⟨h, h⟩

/-- Below it the reference's exponent is a real with `2 ^ e` above the value, or the row is all zero. -/
theorem rE_tiny (a : EReal) (h1 : a * cQ < (((2 : ℝ) ^ (-126 : ℤ) : ℝ) : EReal)) :
    ∃ e : ℤ, rE a = (((e : ℝ)) : EReal) ∧ (a ≠ 0 → a * cQ < (((2 : ℝ) ^ e : ℝ) : EReal)) := by
  by_cases ha : a = 0
  · exact ⟨0, by unfold rE; rw [if_pos ha]; simp, fun h => absurd ha h⟩
  · unfold rE
    rw [if_neg ha]
    have key : ∀ s : Finset (Fin 270), s.fold min ⊤ (fun k : Fin 270 => if a * cQ < Ideal.exp2 (rK k) then rK k else ((121 : ℝ) : EReal)) = ⊤ ∨
        ∃ e : ℤ, s.fold min ⊤ (fun k : Fin 270 => if a * cQ < Ideal.exp2 (rK k) then rK k else ((121 : ℝ) : EReal)) = (((e : ℝ)) : EReal) ∧
          a * cQ < (((2 : ℝ) ^ e : ℝ) : EReal) := by
      intro s
      induction s using Finset.induction_on with
      | empty => exact Or.inl rfl
      | insert k s hk ih =>
        rw [Finset.fold_insert hk]
        have hc : ∃ e : ℤ, (if a * cQ < Ideal.exp2 (rK k) then rK k else ((121 : ℝ) : EReal)) = (((e : ℝ)) : EReal) ∧
            a * cQ < (((2 : ℝ) ^ e : ℝ) : EReal) := by
          split
          · rename_i h
            refine ⟨((k : ℕ) : ℤ) - 148, rfl, ?_⟩
            unfold rK at h
            rwa [exp2_int] at h
          · refine ⟨121, by norm_num, lt_trans h1 (EReal.coe_lt_coe_iff.mpr ?_)⟩
            exact zpow_lt_zpow_right₀ (by norm_num) (by norm_num)
        rcases min_choice (if a * cQ < Ideal.exp2 (rK k) then rK k else ((121 : ℝ) : EReal))
          (s.fold min ⊤ fun k : Fin 270 => if a * cQ < Ideal.exp2 (rK k) then rK k else ((121 : ℝ) : EReal)) with h | h
        · right; rw [h]; exact hc
        · rw [h]; exact ih
    rcases key Finset.univ with h | ⟨e, h, h'⟩
    · exfalso
      have : (Finset.univ : Finset (Fin 270)).fold min ⊤ (fun k : Fin 270 => if a * cQ < Ideal.exp2 (rK k) then rK k else ((121 : ℝ) : EReal)) ≤ ((121 : ℝ) : EReal) := by
        rw [Finset.fold_min_le]
        right
        refine ⟨⟨269, by norm_num⟩, Finset.mem_univ _, ?_⟩
        split
        · unfold rK; norm_num
        · exact le_rfl
      rw [h] at this
      exact absurd this (not_le.mpr (EReal.coe_lt_top _))
    · exact ⟨e, h, fun _ => h'⟩

/-! ## The largest magnitude -/

theorem le_amax {n : ℕ} (x : Fin n → EReal) (k : Fin n) : max (x k) (-(x k)) ≤ amax x := by
  unfold amax
  rw [Finset.le_fold_max]
  exact Or.inr ⟨k, Finset.mem_univ _, le_rfl⟩

theorem abs_nonneg' (x : EReal) : 0 ≤ max x (-x) := by
  rcases le_total 0 x with h | h
  · exact le_trans h (le_max_left _ _)
  · exact le_trans (EReal.neg_nonneg.mpr h) (le_max_right _ _)

theorem sum_mul_coe {ι : Type} (s : Finset ι) (f : ι → EReal) (t : ℝ) (ht : 0 ≤ t) :
    (∑ k ∈ s, f k) * (t : EReal) = ∑ k ∈ s, f k * (t : EReal) := by
  classical
  induction s using Finset.induction_on with
  | empty => simp
  | insert k s hk ih =>
    rw [Finset.sum_insert hk, Finset.sum_insert hk, EReal.right_distrib_of_nonneg_of_ne_top (EReal.coe_nonneg.mpr ht) (EReal.coe_ne_top _), ih]

theorem cR_pos : 0 < cR := by unfold cR; norm_num
theorem cR_448 : 1 ≤ cR * 448 := by unfold cR; norm_num

/-- A code of a value that the inverse scale does not take past 448 is the value times it. -/
theorem code_of_le (x i : ℝ) (h : |x * i| ≤ 448) : code (i : EReal) (x : EReal) = ((x * i : ℝ) : EReal) := by
  unfold code
  rw [← EReal.coe_mul]
  have := abs_le.mp h
  rw [max_eq_right (EReal.coe_le_coe_iff.mpr this.1), min_eq_right (EReal.coe_le_coe_iff.mpr this.2)]

/-- The dot product of a row's codes with anything, times the row's scale, is the same for the kernel's scale and the
    reference's. -/
theorem quant_dot {n : ℕ} (hn : 0 < n) (x w : Fin n → EReal) :
    (∑ k, code (kInv (amax x)) (x k) * w k) * kScale (amax x) = (∑ k, code (rInv (amax x)) (x k) * w k) * rScale (amax x) := by
  by_cases h : (((2 : ℝ) ^ (-126 : ℤ) : ℝ) : EReal) ≤ amax x * cQ
  · rw [(scale_eq _ h).1, (scale_eq _ h).2]
  · have h1 := not_le.mp h
    obtain ⟨ks, ki⟩ := kscale_tiny _ h1
    obtain ⟨e, he, hlt⟩ := rE_tiny _ h1
    have ha0 : 0 ≤ amax x := le_trans (abs_nonneg' (x ⟨0, hn⟩)) (le_amax x ⟨0, hn⟩)
    have hat : amax x ≠ ⊤ := by
      intro h'
      rw [h', cQ_eq, EReal.top_mul_coe_of_pos cR_pos] at h1
      exact absurd h1 not_top_lt
    obtain ⟨a, ha⟩ : ∃ a : ℝ, amax x = (a : EReal) := ⟨(amax x).toReal, (EReal.coe_toReal hat (by
      intro h'; rw [h'] at ha0; exact absurd ha0 (by simp))).symm⟩
    have ha0' : 0 ≤ a := by rw [ha] at ha0; exact EReal.coe_nonneg.mp ha0
    have hx : ∀ k, ∃ y : ℝ, x k = (y : EReal) ∧ |y| ≤ a := by
      intro k
      have hk := le_amax x k
      rw [ha] at hk
      have hk1 := le_trans (le_max_left _ _) hk
      have hk2 := le_trans (le_max_right _ _) hk
      have n1 : x k ≠ ⊤ := by intro h'; rw [h'] at hk1; exact absurd hk1 (by simp)
      have n2 : x k ≠ ⊥ := by intro h'; rw [h'] at hk2; exact absurd hk2 (by simp)
      refine ⟨(x k).toReal, (EReal.coe_toReal n1 n2).symm, ?_⟩
      rw [← EReal.coe_toReal n1 n2] at hk1 hk2
      rw [← EReal.coe_neg] at hk2
      rw [abs_le]
      have := EReal.coe_le_coe_iff.mp hk1
      have := EReal.coe_le_coe_iff.mp hk2
      constructor <;> linarith
    have hac : a * cR < (2 : ℝ) ^ (-126 : ℤ) := by
      rw [ha, cQ_eq, ← EReal.coe_mul] at h1; exact EReal.coe_lt_coe_iff.mp h1
    have hc0 := cR_pos
    have hc1 := cR_448
    have ha448 : a ≤ 448 := by
      have : (2 : ℝ) ^ (-126 : ℤ) ≤ 1 := by norm_num
      nlinarith
    set p : ℝ := (2 : ℝ) ^ e with hp
    have hp0 : 0 < p := by rw [hp]; positivity
    have hrs : rScale (amax x) = (p : EReal) := by unfold rScale; rw [he, exp2_int]
    have hri : rInv (amax x) = ((p⁻¹ : ℝ) : EReal) := by
      unfold rInv
      have e0 : (0 : EReal) - ((e : ℝ) : EReal) = (((-e : ℤ) : ℝ) : EReal) := by
        rw [zero_sub, ← EReal.coe_neg]; congr 1; push_cast; ring
      rw [he, e0, exp2_int, zpow_neg]
    have hap : a * p⁻¹ ≤ 448 := by
      by_cases hz : a = 0
      · rw [hz]; norm_num
      · have := hlt (by rw [ha]; exact_mod_cast hz)
        rw [ha, cQ_eq, ← EReal.coe_mul] at this
        have h3 : a * cR < p := EReal.coe_lt_coe_iff.mp this
        rw [← div_eq_mul_inv, div_le_iff₀ hp0]
        nlinarith
    rw [ks, ki, hrs, hri, mul_one, sum_mul_coe _ _ _ hp0.le]
    refine Finset.sum_congr rfl fun k _ => ?_
    obtain ⟨y, hy, hya⟩ := hx k
    have c1 : code 1 (x k) = x k := by
      have := code_of_le y 1 (by rw [mul_one]; exact hya.trans ha448)
      rw [mul_one] at this
      rw [hy]; exact this
    have c2 : code ((p⁻¹ : ℝ) : EReal) (x k) = ((y * p⁻¹ : ℝ) : EReal) := by
      rw [hy]
      refine code_of_le y p⁻¹ ?_
      rw [abs_mul, abs_of_pos (inv_pos.mpr hp0)]
      exact le_trans (mul_le_mul_of_nonneg_right hya (inv_pos.mpr hp0).le) hap
    rw [c1, c2, mul_right_comm, ← EReal.coe_mul, mul_assoc, inv_mul_cancel₀ hp0.ne', mul_one, hy]

end Cert.Quantiser

end
-- ==== Proof.KernelRows.lean ====
/-
  The kernel's block of 256 rows read at one row and one column: the accumulator plus, where the row's gate is positive,
  the expert's output for the row.
-/
module

public import proofs.«01_k».proof.Proof.KernelBlock
public import proofs.«01_k».proof.Proof.Quantiser
public import Idealize.ShloMosaic.Lib.Pointwise

@[expose] public section

noncomputable section

namespace Cert.KernelIdeal.Rows

open Cert.KernelIdeal Cert.KernelIdeal.Gen Cert.KernelIdeal.Block Cert.Quantiser Idealize.ShloMosaic Idealize.ShloMosaic.TcCoe Idealize.SL.Sem

/-- One entry of a row's first product, scaled: the row's codes against a column of the expert's first weights. -/
def up (a : Fin 2048 → EReal) (x : EReal) (w1 : Fin 2048 → Fin 1536 → EReal) (s1 : Fin 1536 → EReal) (n : Fin 1536) : EReal :=
  (∑ k, a k * w1 k n) * x * s1 n

/-- The activation of a row of 1536 entries: the first half through `h * logistic h`, times the second half. -/
def actOf (h : Fin 1536 → EReal) (n : Fin 768) : EReal :=
  h ⟨n.val, by omega⟩ * FloatOps.logistic (F := Ideal) (φ := .f32) (h ⟨n.val, by omega⟩) * h ⟨768 + n.val, by omega⟩

/-- An expert's output for a row with a positive gate `g`, as the kernel multiplies it. -/
def out (act : Fin 768 → EReal) (g : EReal) (w2 : Fin 768 → EReal) (s2 : EReal) : EReal :=
  (∑ n, code (kInv (amax act)) (act n) * w2 n) * (kScale (amax act) * g) * s2

theorem stepV_apply {s : Shape} (v : FVec Ideal s .f32) (k : BitVec 32) (f : IVec s 32) (j : s.Idx) :
    stepV v k f j = kStep (v j) k (f j) := by
  unfold stepV kStep thr
  pointwise
  rfl

theorem expoV_apply {s : Shape} (v : FVec Ideal s .f32) (j : s.Idx) (a : EReal) (h : v j = a * cQ) : expoV v j = kE a := by
  unfold expoV kE fieldV kField
  pointwise [h]
  simp only [stepV_apply, IntOp.subi]
  pointwise
  rw [h]

theorem scaleV_apply {s : Shape} (v : FVec Ideal s .f32) (j : s.Idx) (a : EReal) (h : v j = a * cQ) : scaleV v j = kScale a := by
  unfold scaleV kScale
  pointwise [expoV_apply v j a h]
  rfl

theorem invV_apply {s : Shape} (v : FVec Ideal s .f32) (j : s.Idx) (a : EReal) (h : v j = a * cQ) : invV v j = kInv a := by
  unfold invV kInv
  pointwise [expoV_apply v j a h]
  rfl

theorem amaxV_apply (act : FVec Ideal S256x768 .f32) (j : S256x1.Idx) :
    amaxV act j = amax (fun n => act (ix2 (j 0) n)) * cQ := by
  unfold amaxV amax cQ
  pointwise
  rw [ofBits_ninf]
  rfl

theorem act_apply (a : Vec Ideal S256x2048 .fp8e4m3) (b : Vec Ideal S1x2048x1536 .fp8e4m3) (x : Vec Ideal S256x1 .f32) (d : Vec Ideal S1x1x1536 .f32)
    (r : Fin 256) (n : Fin 768) :
    k0_pay23 a b x d (ix2 r n) =
      actOf (up (fun k => a (ix2 r k)) (x (ix2 r 0)) (fun k n => b (ix3 0 k n)) (fun n => d (ix3 0 0 n))) n := by
  unfold actOf up
  pointwise [k0_pay23]

theorem rowsV_apply (g : FVec Ideal S256x1 .f32) (act : FVec Ideal S256x768 .f32) (wdn : Vec Ideal S1x768x2048 .fp8e4m3) (sdn : Vec Ideal S1x1x2048 .f32)
    (acc : Vec Ideal S256x2048 .f32) (r : Fin 256) (q : Fin 2048) :
    rowsV g act wdn sdn acc (ix2 r q) = acc (ix2 r q) + if 0 < g (ix2 r 0) then
      out (fun n => act (ix2 r n)) (g (ix2 r 0)) (fun n => wdn (ix3 0 n q)) (sdn (ix3 0 0 q)) else 0 := by
  unfold rowsV out codesV
  pointwise
  rw [invV_apply _ _ _ (amaxV_apply act (ix2 r 0)), scaleV_apply _ _ _ (amaxV_apply act (ix2 r 0)), ofBits_448, ofBits_neg448]
  rfl

/-- One expert's addend at a row and a column of the accumulator. -/
def addend (a : Vec Ideal S1024x2048 .fp8e4m3) (x : Vec Ideal S1024x1 .f32) (g : EReal) (w1 : Vec Ideal S1x2048x1536 .fp8e4m3)
    (s1 : Vec Ideal S1x1x1536 .f32) (w2 : Vec Ideal S1x768x2048 .fp8e4m3) (s2 : Vec Ideal S1x1x2048 .f32) (r : Fin 1024) (q : Fin 2048) : EReal :=
  if 0 < g then
    out (actOf (up (fun k => a (ix2 r k)) (x (ix2 r 0)) (fun k n => w1 (ix3 0 k n)) (fun n => s1 (ix3 0 0 n)))) g
      (fun n => w2 (ix3 0 n q)) (s2 (ix3 0 0 q)) else 0

/-- A sum over sixteen lanes that keeps one lane. -/
theorem pick (e : Fin 16) (f : Fin 16 → EReal) :
    ∑ x : Fin 16, Scalar.select (IntOp.cmpi .eq (BitVec.ofNat 32 x.val) (BitVec.ofNat 32 e.val)) (f x) 0 = f e := by
  have key : ∀ x : Fin 16, Scalar.select (IntOp.cmpi .eq (BitVec.ofNat 32 x.val) (BitVec.ofNat 32 e.val)) (f x) 0
      = if x = e then f x else 0 := by
    intro x
    by_cases h : x = e
    · subst h; simp [Scalar.select, IntOp.cmpi]
    · have h' : (BitVec.ofNat 32 x.val == BitVec.ofNat 32 e.val) = false := by
        rw [beq_eq_false_iff_ne]
        intro hh
        have := congrArg BitVec.toNat hh
        simp only [BitVec.toNat_ofNat] at this
        exact h (Fin.ext (by omega))
      simp [Scalar.select, IntOp.cmpi, h, h']
  rw [Finset.sum_congr rfl fun x _ => key x, Finset.sum_ite_eq' Finset.univ e]
  simp

/-- The expert's gate of a row, picked out of the table of gates by its number. -/
theorem gate_apply (i : grid0.Coords) (v : FVec Ideal S1024x16 .f32) (r : Fin 1024) :
    k0_pay22 i v (ix2 r 0) = v (ix2 r (i 0)) := by
  pointwise [k0_pay22]
  exact pick (i 0) fun x => v (ix2 r x)

end Cert.KernelIdeal.Rows

end
-- ==== Proof.KernelStep.lean ====
/-
  What the kernel's body leaves in its accumulator at a point after the first, read at an index: the accumulator it found
  plus the point's expert's addend.
-/
module

public import proofs.«01_k».proof.Proof.Gen.KernelIdeal.Value
public import Idealize.ShloMosaic.Lib.Pointwise
public import Idealize.ShloMosaic.Lib.Pipeline.ValueKit.Tiles
public import proofs.«01_k».proof.Proof.KernelRows

@[expose] public section

noncomputable section

namespace Cert.KernelIdeal.Read

open Cert.KernelIdeal Cert.KernelIdeal.Gen Idealize.ShloMosaic Idealize.ShloMosaic.TcCoe Idealize.SL.Sem

theorem hz2 : (![0, 0] : Fin 2 → Nat) = fun _ => 0 := by funext i; fin_cases i <;> rfl
theorem hz3 : (![0, 0, 0] : Fin 3 → Nat) = fun _ => 0 := by funext i; fin_cases i <;> rfl

variable (c : Dev nD) (i : grid0.Coords) (arg1 : Memref sig .tc .vmem S1024x2048 .bf16) (harg1 : arg1.IsWhole) (arg2 : Memref sig .tc .vmem S2048x16 .f32) (harg2 : arg2.IsWhole) (arg3 : Memref sig .tc .vmem S1x2048x1536 .fp8e4m3) (harg3 : arg3.IsWhole) (arg4 : Memref sig .tc .vmem S1x1x1536 .f32) (harg4 : arg4.IsWhole) (arg5 : Memref sig .tc .vmem S1x768x2048 .fp8e4m3) (harg5 : arg5.IsWhole) (arg6 : Memref sig .tc .vmem S1x1x2048 .f32) (harg6 : arg6.IsWhole) (arg7 : Memref sig .tc .vmem S1024x2048 .bf16) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S1024x16 .f32) (harg10 : arg10.IsWhole) (arg11 : Memref sig .tc .vmem S1024x2048 .f32) (harg11 : arg11.IsWhole)
    (x0 : Vec Ideal S1024x2048 .bf16) (x1 : Vec Ideal S2048x16 .f32) (x2 : Vec Ideal S1x2048x1536 .fp8e4m3) (x3 : Vec Ideal S1x1x1536 .f32) (x4 : Vec Ideal S1x768x2048 .fp8e4m3) (x5 : Vec Ideal S1x1x2048 .f32)
    (xs0 : Vec Ideal S1024x2048 .fp8e4m3) (xs1 : Vec Ideal S1024x1 .f32) (xs2 : Vec Ideal S1024x16 .f32) (xs3 : Vec Ideal S1024x2048 .f32)

/-- The four row blocks the body stores, last first. -/
def pieces (a : Vec Ideal S1024x2048 .fp8e4m3) (b : Vec Ideal S1024x1 .f32) (gc : FVec Ideal S1024x1 .f32) (x2 : Vec Ideal S1x2048x1536 .fp8e4m3)
    (x3 : Vec Ideal S1x1x1536 .f32) (x4 : Vec Ideal S1x768x2048 .fp8e4m3) (x5 : Vec Ideal S1x1x2048 .f32) (acc : Vec Ideal S1024x2048 .f32) :
    List (View.Piece (Elt Ideal) S1024x2048 .f32) :=
  [⟨Rect.unit ![768, 0] ![256, 2048] inb_S1024x2048_S256x2048_768_0,
      Block.rowsV (extractStridedSlice S256x1 ![768, 0] gc slices_S1024x1_o768_0_S256x1)
        (k0_pay23 (View.ld a (Rect.unit ![768, 0] ![256, 2048] inb_S1024x2048_S256x2048_768_0)) x2
          (View.ld b (Rect.unit ![768, 0] ![256, 1] inb_S1024x1_S256x1_768_0)) x3)
        x4 x5 (View.ld acc (Rect.unit ![768, 0] ![256, 2048] inb_S1024x2048_S256x2048_768_0))⟩,
    ⟨Rect.unit ![512, 0] ![256, 2048] inb_S1024x2048_S256x2048_512_0,
      Block.rowsV (extractStridedSlice S256x1 ![512, 0] gc slices_S1024x1_o512_0_S256x1)
        (k0_pay23 (View.ld a (Rect.unit ![512, 0] ![256, 2048] inb_S1024x2048_S256x2048_512_0)) x2
          (View.ld b (Rect.unit ![512, 0] ![256, 1] inb_S1024x1_S256x1_512_0)) x3)
        x4 x5 (View.ld acc (Rect.unit ![512, 0] ![256, 2048] inb_S1024x2048_S256x2048_512_0))⟩,
    ⟨Rect.unit ![256, 0] ![256, 2048] inb_S1024x2048_S256x2048_256_0,
      Block.rowsV (extractStridedSlice S256x1 ![256, 0] gc slices_S1024x1_o256_0_S256x1)
        (k0_pay23 (View.ld a (Rect.unit ![256, 0] ![256, 2048] inb_S1024x2048_S256x2048_256_0)) x2
          (View.ld b (Rect.unit ![256, 0] ![256, 1] inb_S1024x1_S256x1_256_0)) x3)
        x4 x5 (View.ld acc (Rect.unit ![256, 0] ![256, 2048] inb_S1024x2048_S256x2048_256_0))⟩,
    ⟨Rect.unit ![0, 0] ![256, 2048] inb_S1024x2048_S256x2048_0_0,
      Block.rowsV (extractStridedSlice S256x1 ![0, 0] gc slices_S1024x1_o0_0_S256x1)
        (k0_pay23 (View.ld a (Rect.unit ![0, 0] ![256, 2048] inb_S1024x2048_S256x2048_0_0)) x2
          (View.ld b (Rect.unit ![0, 0] ![256, 1] inb_S1024x1_S256x1_0_0)) x3)
        x4 x5 (View.ld acc (Rect.unit ![0, 0] ![256, 2048] inb_S1024x2048_S256x2048_0_0))⟩]

/-- The four blocks tile the accumulator; each index holds what it held plus the addend of its row and column. -/
theorem pieces_apply (a : Vec Ideal S1024x2048 .fp8e4m3) (b : Vec Ideal S1024x1 .f32) (gc : FVec Ideal S1024x1 .f32) (x2 : Vec Ideal S1x2048x1536 .fp8e4m3)
    (x3 : Vec Ideal S1x1x1536 .f32) (x4 : Vec Ideal S1x768x2048 .fp8e4m3) (x5 : Vec Ideal S1x1x2048 .f32) (acc : Vec Ideal S1024x2048 .f32)
    (r : Fin 1024) (q : Fin 2048) :
    View.canon (pieces a b gc x2 x3 x4 x5 acc) (ix2 r q) = acc (ix2 r q) + Rows.addend a b (gc (ix2 r 0)) x2 x3 x4 x5 r q := by
  unfold pieces
  canon_tiles x h
  all_goals
    idx_vars x
    rw [Rows.rowsV_apply]
    simp only [Rows.act_apply]
    pointwise
    unfold Rows.addend
    have hq : q = x1 := Fin.ext h1
    subst hq
    simp only [← h0, Fin.eta]

set_option maxHeartbeats 400000 in
theorem acc_B (hc0 : ¬cond0_0 i) (hc1 : ¬cond0_1 i) (r : Fin 1024) (q : Fin 2048) :
    sout0_B_3 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 (ix2 r q) =
      xs3 (ix2 r q) + Rows.addend xs0 xs1 (xs2 (ix2 r (i 0))) x2 x3 x4 x5 r q := by
  unfold sout0_B_3
  rw [View.read_writes_eq_canon _ _ _ (scover0_B_3 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_B
  dsimp only
  sl_unfold_words
  rw [Block.block0, Block.block1, Block.block2, Block.block3]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x2048x1536) hz3, View.ld_unit_zero (S := S1x1x1536) hz3, View.ld_unit_zero (S := S1x768x2048) hz3, View.ld_unit_zero (S := S1x1x2048) hz3, View.ld_unit_zero (S := S1024x16) hz2]
  have := pieces_apply xs0 xs1 (k0_pay22 i xs2) x2 x3 x4 x5 xs3 r q
  rw [Rows.gate_apply] at this
  exact this

set_option maxHeartbeats 400000 in
theorem acc_C (hc0 : ¬cond0_0 i) (hc1 : cond0_1 i) (r : Fin 1024) (q : Fin 2048) :
    sout0_C_3 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 (ix2 r q) =
      xs3 (ix2 r q) + Rows.addend xs0 xs1 (xs2 (ix2 r (i 0))) x2 x3 x4 x5 r q := by
  unfold sout0_C_3
  rw [View.read_writes_eq_canon _ _ _ (scover0_C_3 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_C
  dsimp only
  sl_unfold_words
  rw [Block.block0, Block.block1, Block.block2, Block.block3]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x2048x1536) hz3, View.ld_unit_zero (S := S1x1x1536) hz3, View.ld_unit_zero (S := S1x768x2048) hz3, View.ld_unit_zero (S := S1x1x2048) hz3, View.ld_unit_zero (S := S1024x16) hz2]
  have := pieces_apply xs0 xs1 (k0_pay22 i xs2) x2 x3 x4 x5 xs3 r q
  rw [Rows.gate_apply] at this
  exact this

set_option maxHeartbeats 400000 in
/-- At the last point the result is the accumulator left there, cast. -/
theorem out_C (hc0 : ¬cond0_0 i) (hc1 : cond0_1 i) (r : Fin 1024) (q : Fin 2048) :
    out0_C_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 (ix2 r q) =
      xs3 (ix2 r q) + Rows.addend xs0 xs1 (xs2 (ix2 r (i 0))) x2 x3 x4 x5 r q := by
  unfold out0_C_6
  rw [View.read_writes_eq_canon _ _ _ (cover0_C_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_C
  dsimp only
  sl_unfold_words
  rw [Block.block0, Block.block1, Block.block2, Block.block3]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x2048x1536) hz3, View.ld_unit_zero (S := S1x1x1536) hz3, View.ld_unit_zero (S := S1x768x2048) hz3, View.ld_unit_zero (S := S1x1x2048) hz3, View.ld_unit_zero (S := S1024x16) hz2]
  rw [View.canon_unit_zero hz2, View.readCov_eq_canon']
  have := pieces_apply xs0 xs1 (k0_pay22 i xs2) x2 x3 x4 x5 xs3 r q
  rw [Rows.gate_apply] at this
  unfold pieces at this
  have hw : ∀ L : List (View.Piece (Elt Ideal) S1024x2048 .f32), (fun j => View.canon L
      ((Rect.unit ![0, 0] ![1024, 2048] inb_S1024x2048_S1024x2048_0_0).idx j)) = View.canon L :=
    fun L => View.ld_unit_zero (S := S1024x2048) hz2 _ (View.canon L)
  have ht : ∀ v : Vec Ideal S1024x2048 .f32, k0_pay2 v (ix2 r q) = v (ix2 r q) := fun v => rfl
  rw [hw, ht]
  exact this

end Cert.KernelIdeal.Read

end
-- ==== Proof.KernelFirst.lean ====
/-
  What the kernel's body leaves in its four scratch buffers at the first point: the codes of the tokens, their scales, the
  gates, and the first expert's addend over a zeroed accumulator.
-/
module

public import proofs.«01_k».proof.Proof.Gen.KernelIdeal.Value
public import Idealize.ShloMosaic.Lib.Pointwise
public import Idealize.ShloMosaic.Lib.Pipeline.RowLoads
public import proofs.«01_k».proof.Proof.KernelStep

@[expose] public section

noncomputable section

namespace Cert.KernelIdeal.Read

open Cert.KernelIdeal Cert.KernelIdeal.Gen Idealize.ShloMosaic Idealize.ShloMosaic.TcCoe Idealize.SL.Sem

/-- A load of part of a buffer that one store filled reads that store's payload. -/
theorem load_big {e : EltTy} {κ : Kind} {sp : Space} (v : View sig κ sp S1024x2048 e) (w : Vec Ideal S1024x2048 e) (B : Rect S1024x2048) :
    v.readCov [(⟨Rect.unit ![0, 0] ![1024, 2048] inb_S1024x2048_S1024x2048_0_0, w⟩ : View.Piece (Elt Ideal) S1024x2048 e)] B.toLoadRect = View.ld w B := by
  rw [View.readCov_eq_canon', View.canon_unit_zero (S := S1024x2048) hz2]

theorem load_col {e : EltTy} {κ : Kind} {sp : Space} (v : View sig κ sp S1024x1 e) (w : Vec Ideal S1024x1 e) (B : Rect S1024x1) :
    v.readCov [(⟨Rect.unit ![0, 0] ![1024, 1] inb_S1024x1_S1024x1_0_0, w⟩ : View.Piece (Elt Ideal) S1024x1 e)] B.toLoadRect = View.ld w B := by
  rw [View.readCov_eq_canon', View.canon_unit_zero (S := S1024x1) hz2]

theorem load_table {e : EltTy} {κ : Kind} {sp : Space} (v : View sig κ sp S1024x16 e) (w : Vec Ideal S1024x16 e) (B : Rect S1024x16) :
    v.readCov [(⟨Rect.unit ![0, 0] ![1024, 16] inb_S1024x16_S1024x16_0_0, w⟩ : View.Piece (Elt Ideal) S1024x16 e)] B.toLoadRect = View.ld w B := by
  rw [View.readCov_eq_canon', View.canon_unit_zero (S := S1024x16) hz2]

/-- A load of one row block does not see a store of an earlier one. -/
theorem load_past {e : EltTy} {κ : Kind} {sp : Space} (v : View sig κ sp S1024x2048 e) (o o' : Nat) (h : o + 256 ≤ o')
    (inb : ∀ a, (![o, 0] : Fin 2 → Nat) a + (![256, 2048] : Fin 2 → Nat) a ≤ S1024x2048.size a)
    (inb' : ∀ a, (![o', 0] : Fin 2 → Nat) a + (![256, 2048] : Fin 2 → Nat) a ≤ S1024x2048.size a)
    (w : Vec Ideal S256x2048 e) (L : List (View.Piece (Elt Ideal) S1024x2048 e)) :
    v.readCov ((⟨Rect.unit ![o, 0] ![256, 2048] inb, w⟩ : View.Piece (Elt Ideal) S1024x2048 e) :: L) (Rect.unit ![o', 0] ![256, 2048] inb').toLoadRect =
      v.readCov L (Rect.unit ![o', 0] ![256, 2048] inb').toLoadRect :=
  View.readCov_cons_of_disjoint v _ L _ (Rect.unit_disjoint (inb := inb) (inb' := inb') 0 (.inl h))

/-- Where the later stores cover an index, the earlier ones do not matter. -/
theorem canon_append {e : EltTy} (L' : List (View.Piece (Elt Ideal) S1024x2048 e)) (y : S1024x2048.Idx) :
    ∀ L : List (View.Piece (Elt Ideal) S1024x2048 e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans (Eq.trans ?_ (View.canon_cons_of_not_mem p L hm).symm)
      refine canon_append L' y L ?_
      obtain ⟨p', hp', hy⟩ := h
      rcases List.mem_cons.mp hp' with rfl | hp'
      · exact absurd hy hm
      · exact ⟨p', hp', hy⟩

/-- The blocks over an accumulator, whatever was stored before them. -/
theorem pieces_over (a : Vec Ideal S1024x2048 .fp8e4m3) (b : Vec Ideal S1024x1 .f32) (gc : FVec Ideal S1024x1 .f32) (x2 : Vec Ideal S1x2048x1536 .fp8e4m3)
    (x3 : Vec Ideal S1x1x1536 .f32) (x4 : Vec Ideal S1x768x2048 .fp8e4m3) (x5 : Vec Ideal S1x1x2048 .f32) (acc : Vec Ideal S1024x2048 .f32)
    (L' : List (View.Piece (Elt Ideal) S1024x2048 .f32)) (r : Fin 1024) (q : Fin 2048) :
    View.canon (pieces a b gc x2 x3 x4 x5 acc ++ L') (ix2 r q) = acc (ix2 r q) + Rows.addend a b (gc (ix2 r 0)) x2 x3 x4 x5 r q := by
  rw [canon_append L' (ix2 r q) (pieces a b gc x2 x3 x4 x5 acc) (by
    unfold pieces
    exact View.cover_of_tiled_head _ _ _ (by rfl) _)]
  exact pieces_apply a b gc x2 x3 x4 x5 acc r q

/-- The codes of the tokens. -/
def codesX (x0 : Vec Ideal S1024x2048 .bf16) : FVec Ideal S1024x2048 .fp8e4m3 :=
  k0_pay19 (k0_pay3 x0) (k0_pay18 (k0_pay12 (k0_pay3 x0)) (k0_pay13 (k0_pay3 x0)) (k0_pay15 (k0_pay13 (k0_pay3 x0)) k0_pay14))

/-- The scales of the tokens. -/
def scaleX (x0 : Vec Ideal S1024x2048 .bf16) : FVec Ideal S1024x1 .f32 :=
  k0_pay20 (k0_pay17 (k0_pay12 (k0_pay3 x0)) (k0_pay13 (k0_pay3 x0)) (k0_pay15 (k0_pay13 (k0_pay3 x0)) k0_pay14))

/-- The gates of the tokens. -/
def gatesX (x0 : Vec Ideal S1024x2048 .bf16) (x1 : Vec Ideal S2048x16 .f32) : FVec Ideal S1024x16 .f32 :=
  k0_pay11 (k0_pay4 x0 x1) (iota Kind.tc S1024x16 32 [1] iota_S1024x16_d1_w32)
    (k0_pay9 (k0_pay4 x0 x1) (iota Kind.tc S1024x16 32 [1] iota_S1024x16_d1_w32)
      (k0_pay7 (k0_pay4 x0 x1) (iota Kind.tc S1024x16 32 [1] iota_S1024x16_d1_w32) (k0_pay5 x0 x1) (k0_pay6 x0 x1))
      (k0_pay8 (k0_pay4 x0 x1) (iota Kind.tc S1024x16 32 [1] iota_S1024x16_d1_w32)))
    (k0_pay10 (k0_pay4 x0 x1) (iota Kind.tc S1024x16 32 [1] iota_S1024x16_d1_w32))

variable (c : Dev nD) (i : grid0.Coords) (arg1 : Memref sig .tc .vmem S1024x2048 .bf16) (harg1 : arg1.IsWhole) (arg2 : Memref sig .tc .vmem S2048x16 .f32) (harg2 : arg2.IsWhole) (arg3 : Memref sig .tc .vmem S1x2048x1536 .fp8e4m3) (harg3 : arg3.IsWhole) (arg4 : Memref sig .tc .vmem S1x1x1536 .f32) (harg4 : arg4.IsWhole) (arg5 : Memref sig .tc .vmem S1x768x2048 .fp8e4m3) (harg5 : arg5.IsWhole) (arg6 : Memref sig .tc .vmem S1x1x2048 .f32) (harg6 : arg6.IsWhole) (arg7 : Memref sig .tc .vmem S1024x2048 .bf16) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S1024x16 .f32) (harg10 : arg10.IsWhole) (arg11 : Memref sig .tc .vmem S1024x2048 .f32) (harg11 : arg11.IsWhole)
    (x0 : Vec Ideal S1024x2048 .bf16) (x1 : Vec Ideal S2048x16 .f32) (x2 : Vec Ideal S1x2048x1536 .fp8e4m3) (x3 : Vec Ideal S1x1x1536 .f32) (x4 : Vec Ideal S1x768x2048 .fp8e4m3) (x5 : Vec Ideal S1x1x2048 .f32)
    (xs0 : Vec Ideal S1024x2048 .fp8e4m3) (xs1 : Vec Ideal S1024x1 .f32) (xs2 : Vec Ideal S1024x16 .f32) (xs3 : Vec Ideal S1024x2048 .f32)

set_option maxHeartbeats 400000 in
theorem first_0 (hc0 : cond0_0 i) (hc1 : ¬cond0_1 i) :
    sout0_A_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 = codesX x0 := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x2048) hz2, View.ld_unit_zero (S := S2048x16) hz2, View.ld_unit_zero (S := S1x2048x1536) hz3, View.ld_unit_zero (S := S1x1x1536) hz3, View.ld_unit_zero (S := S1x768x2048) hz3, View.ld_unit_zero (S := S1x1x2048) hz3, View.ld_unit_zero (S := S1024x16) hz2, load_big, load_col, load_table, load_past]
  exact View.canon_unit_zero (S := S1024x2048) hz2 _ _

set_option maxHeartbeats 400000 in
theorem first_1 (hc0 : cond0_0 i) (hc1 : ¬cond0_1 i) :
    sout0_A_1 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 = scaleX x0 := by
  unfold sout0_A_1
  rw [View.read_writes_eq_canon _ _ _ (scover0_A_1 (F := Ideal) c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x2048) hz2, View.ld_unit_zero (S := S2048x16) hz2, View.ld_unit_zero (S := S1x2048x1536) hz3, View.ld_unit_zero (S := S1x1x1536) hz3, View.ld_unit_zero (S := S1x768x2048) hz3, View.ld_unit_zero (S := S1x1x2048) hz3, View.ld_unit_zero (S := S1024x16) hz2, load_big, load_col, load_table, load_past]
  exact View.canon_unit_zero (S := S1024x1) hz2 _ _

set_option maxHeartbeats 400000 in
theorem first_2 (hc0 : cond0_0 i) (hc1 : ¬cond0_1 i) :
    sout0_A_2 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 = gatesX x0 x1 := by
  unfold sout0_A_2
  rw [View.read_writes_eq_canon _ _ _ (scover0_A_2 (F := Ideal) c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x2048) hz2, View.ld_unit_zero (S := S2048x16) hz2, View.ld_unit_zero (S := S1x2048x1536) hz3, View.ld_unit_zero (S := S1x1x1536) hz3, View.ld_unit_zero (S := S1x768x2048) hz3, View.ld_unit_zero (S := S1x1x2048) hz3, View.ld_unit_zero (S := S1024x16) hz2, load_big, load_col, load_table, load_past]
  exact View.canon_unit_zero (S := S1024x16) hz2 _ _

set_option maxHeartbeats 400000 in
theorem first_3 (hc0 : cond0_0 i) (hc1 : ¬cond0_1 i) (r : Fin 1024) (q : Fin 2048) :
    sout0_A_3 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 (ix2 r q) =
      Rows.addend (codesX x0) (scaleX x0) (gatesX x0 x1 (ix2 r (i 0))) x2 x3 x4 x5 r q := by
  unfold sout0_A_3
  rw [View.read_writes_eq_canon _ _ _ (scover0_A_3 (F := Ideal) c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [Block.block0, Block.block1, Block.block2, Block.block3]
  simp (disch := decide) only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x2048) hz2, View.ld_unit_zero (S := S2048x16) hz2, View.ld_unit_zero (S := S1x2048x1536) hz3, View.ld_unit_zero (S := S1x1x1536) hz3, View.ld_unit_zero (S := S1x768x2048) hz3, View.ld_unit_zero (S := S1x1x2048) hz3, View.ld_unit_zero (S := S1024x16) hz2, load_big, load_col, load_table, load_past]
  have := pieces_over (codesX x0) (scaleX x0) (k0_pay22 i (gatesX x0 x1)) x2 x3 x4 x5 (k0_pay21 (F := Ideal))
    [⟨Rect.unit ![0, 0] ![1024, 2048] inb_S1024x2048_S1024x2048_0_0, k0_pay21 (F := Ideal)⟩] r q
  rw [Rows.gate_apply] at this
  unfold codesX scaleX gatesX pieces at this
  refine Eq.trans this ?_
  have hz : k0_pay21 (F := Ideal) (ix2 r q) = 0 := Ideal.ofBits_zero_f32
  rw [hz, zero_add]
  rfl

end Cert.KernelIdeal.Read

end
-- ==== Proof.Gates.lean ====
/-
  The gates. The kernel ranks the sixteen logits of a token by comparison (how many are larger, or equal and at a lower
  position), keeps the experts of rank below eight and takes the softmax over them; the reference takes the first eight
  of a stable descending sort, their softmax, and adds each back to the expert it came from. For finite logits both give
  every expert the same weight, and a kept expert's weight is positive.
-/
module

public import Idealize.ShloMosaic.Init
public import Idealize.ShloMosaic.PureOps.Ideal.Laws
public import Idealize.ShloMosaic.Lib.IdealHost
public import Idealize.ShloMosaic.Lib.SortPrefix

@[expose] public section

noncomputable section

namespace Cert.Gates

open Idealize.ShloMosaic

/-! ## A stable sort by value orders ties by position -/

theorem stableSort_tie {ι : Type} (B B' : ι → ι → Bool) (l : List ι)
    (h : l.Pairwise fun a b => B b a = B' b a) : stableSort B l = stableSort B' l := by
  induction l with
  | nil => rfl
  | cons a l ih =>
    rw [List.pairwise_cons] at h
    unfold stableSort
    rw [ih h.2]
    exact insertBefore_congr B B' a _ fun b hb => h.1 b ((perm_stableSort B' l).mem_iff.mp hb)

theorem sortedFrom_of_positions {n : ℕ} {B B' : Fin n → Fin n → Bool} (h : sortPositions n B = sortPositions n B') :
    sortedFrom B = sortedFrom B' := by
  funext k
  exact List.get_of_eq h _

/-- `i` is before `j`: its logit is larger, or equal and `i` is the earlier position. -/
def before (l : Fin 16 → EReal) (i j : Fin 16) : Bool :=
  decide (l j < l i) || (decide (l i = l j) && decide (i < j))

theorem before_total (l : Fin 16 → EReal) : StrictTotalBefore (before l) :=
  StrictTotalBefore.of_key_then_position (fun a b : EReal => decide (b < a)) l (by simp)
    (by intro a b c; simp only [decide_eq_true_eq]; exact fun h1 h2 => lt_trans h2 h1)
    (by intro a b; simp only [decide_eq_true_eq]; rcases lt_trichotomy a b with h | h | h <;> simp [h])

/-- The source of each place of the descending sort. -/
def src (l : Fin 16 → EReal) : Fin 16 → Fin 16 := sortedFrom fun i j => decide (l j < l i)

theorem src_eq (l : Fin 16 → EReal) : src l = sortedFrom (before l) := by
  have h : sortPositions 16 (fun i j => decide (l j < l i)) = sortPositions 16 (before l) := by
    unfold sortPositions
    refine stableSort_tie _ _ _ ((List.pairwise_lt_finRange 16).imp fun {a b} hab => ?_)
    unfold before
    simp [not_lt.mpr hab.le]
  exact sortedFrom_of_positions h

theorem src_bij (l : Fin 16 → EReal) : Function.Bijective (src l) :=
  ⟨sortedFrom_injective _, sortedFrom_surjective _⟩

theorem before_src (l : Fin 16 → EReal) (p q : Fin 16) : before l (src l p) (src l q) = true ↔ p < q := by
  have hB := before_total l
  have key : ∀ p q : Fin 16, p < q → before l (src l q) (src l p) = false := by
    intro p q h
    rw [src_eq]
    exact sortedFrom_noInversion (before l) (before l) (fun a b h => hB.asymm a b h) (fun _ _ h => h) hB.negTrans p q h
  constructor
  · intro h
    by_contra hn
    rcases lt_or_eq_of_le (not_lt.mp hn) with h' | h'
    · rw [key q p h'] at h; exact absurd h (by decide)
    · rw [h', hB.irrefl] at h; exact absurd h (by decide)
  · intro h
    rcases hB.total (src l p) (src l q) (fun e => h.ne ((src_bij l).1 e)) with h' | h'
    · exact h'
    · rw [key p q h] at h'; exact absurd h' (by decide)

/-- How many logits are before expert `e`'s. -/
def rank (l : Fin 16 → EReal) (e : Fin 16) : ℕ := (Finset.univ.filter fun j => before l j e = true).card

theorem rank_src (l : Fin 16 → EReal) (p : Fin 16) : rank l (src l p) = p := by
  unfold rank
  have : (Finset.univ.filter fun j => before l j (src l p) = true) = (Finset.univ.filter fun q : Fin 16 => q < p).map ⟨src l, (src_bij l).1⟩ := by
    ext j
    obtain ⟨q, rfl⟩ := (src_bij l).2 j
    simp only [Finset.mem_filter, Finset.mem_univ, true_and, Finset.mem_map, Function.Embedding.coeFn_mk, before_src]
    constructor
    · exact fun h => ⟨q, h, rfl⟩
    · rintro ⟨q', h, e⟩
      rwa [← (src_bij l).1 e]
  rw [this, Finset.card_map, show (Finset.univ.filter fun q : Fin 16 => q < p) = Finset.Iio p by ext; simp, Fin.card_Iio]

/-! ## The two sets of gates -/

/-- The largest logit. -/
def top (l : Fin 16 → EReal) : EReal := Finset.univ.fold max ⊥ l

/-- The kernel's unnormalised weight of expert `e`. -/
def kP (l : Fin 16 → EReal) (e : Fin 16) : EReal := if rank l e < 8 then Ideal.exp (l e - top l) else 0

/-- The kernel's gate of expert `e`. -/
def kGate (l : Fin 16 → EReal) (e : Fin 16) : EReal := Ideal.div (kP l e) (∑ j, kP l j)

/-- The logit at place `p` of the eight largest. -/
def rTop (l : Fin 16 → EReal) (p : Fin 8) : EReal := l (src l (p.castLE (by norm_num)))

/-- The largest of the eight. -/
def rMax (l : Fin 16 → EReal) : EReal := max ⊥ (Finset.univ.fold max ⊥ (rTop l))

/-- The reference's gate at place `p`. -/
def rP (l : Fin 16 → EReal) (p : Fin 8) : EReal := Ideal.exp (rTop l p - rMax l)

/-- The reference's gate of expert `e`. -/
def rGate (l : Fin 16 → EReal) (e : Fin 16) : EReal :=
  0 + ∑ p : Fin 8, if src l (p.castLE (by norm_num)) = e then Ideal.div (rP l p) (0 + ∑ q, rP l q) else 0

theorem le_top_logit (l : Fin 16 → EReal) (e : Fin 16) : l e ≤ top l := by
  unfold top
  rw [Finset.le_fold_max]
  exact Or.inr ⟨e, Finset.mem_univ _, le_rfl⟩

/-- Every logit is at most the one the sort puts first. -/
theorem le_first (l : Fin 16 → EReal) (e : Fin 16) : l e ≤ l (src l 0) := by
  obtain ⟨p, rfl⟩ := (src_bij l).2 e
  by_cases h : p = 0
  · rw [h]
  · have := (before_src l 0 p).mpr (Fin.pos_of_ne_zero h)
    unfold before at this
    simp only [Bool.or_eq_true, Bool.and_eq_true, decide_eq_true_eq] at this
    rcases this with h | h
    · exact h.le
    · exact h.1.ge

theorem rMax_eq (l : Fin 16 → EReal) : rMax l = top l := by
  unfold rMax
  rw [max_eq_right bot_le]
  apply le_antisymm
  · rw [Finset.fold_max_le]
    exact ⟨bot_le, fun p _ => le_top_logit l _⟩
  · refine le_trans (b := l (src l 0)) ?_ ?_
    · unfold top
      rw [Finset.fold_max_le]
      exact ⟨bot_le, fun e _ => le_first l e⟩
    · rw [Finset.le_fold_max]
      exact Or.inr ⟨0, Finset.mem_univ _, le_rfl⟩

theorem top_eq_first (l : Fin 16 → EReal) : top l = l (src l 0) :=
  le_antisymm (by
    unfold top
    rw [Finset.fold_max_le]
    exact ⟨bot_le, fun e _ => le_first l e⟩) (le_top_logit l _)

theorem kP_src (l : Fin 16 → EReal) (p : Fin 16) :
    kP l (src l p) = if p.val < 8 then Ideal.exp (l (src l p) - top l) else 0 := by
  unfold kP
  rw [rank_src]

theorem sum_halves (f : Fin 16 → EReal) : ∑ p, f p = ∑ p : Fin 8, f (p.castLE (by norm_num)) + ∑ p : Fin 8, f (Fin.natAdd 8 p) :=
  Fin.sum_univ_add (a := 8) (b := 8) f

theorem sum_kP (l : Fin 16 → EReal) : ∑ e, kP l e = ∑ p : Fin 8, rP l p := by
  have e1 : ∑ p, kP l (src l p) = ∑ e, kP l e := (src_bij l).sum_comp (kP l)
  rw [← e1, sum_halves fun p => kP l (src l p)]
  have h2 : ∑ p : Fin 8, kP l (src l (Fin.natAdd 8 p)) = 0 := by
    refine Finset.sum_eq_zero fun p _ => ?_
    rw [kP_src, if_neg (by simp)]
  rw [h2, add_zero]
  refine Finset.sum_congr rfl fun p _ => ?_
  rw [kP_src, if_pos (by simp)]
  unfold rP rTop
  rw [rMax_eq]

theorem coe_sum {ι : Type} (s : Finset ι) (f : ι → ℝ) : ((∑ j ∈ s, f j : ℝ) : EReal) = ∑ j ∈ s, (f j : EReal) := by
  classical
  induction s using Finset.induction_on with
  | empty => simp
  | insert k s hk ih => rw [Finset.sum_insert hk, Finset.sum_insert hk, EReal.coe_add, ih]

/-- A finite logit's unnormalised weight. -/
theorem kP_real (l : Fin 16 → EReal) (hl : ∀ e, ∃ r : ℝ, l e = (r : EReal)) (e : Fin 16) :
    ∃ r : ℝ, kP l e = (r : EReal) ∧ 0 ≤ r ∧ (rank l e < 8 → 0 < r) := by
  unfold kP
  by_cases h : rank l e < 8
  · rw [if_pos h, top_eq_first]
    obtain ⟨a, ha⟩ := hl e
    obtain ⟨b, hb⟩ := hl (src l 0)
    rw [ha, hb, ← EReal.coe_sub]
    exact ⟨Real.exp (a - b), rfl, (Real.exp_pos _).le, fun _ => Real.exp_pos _⟩
  · rw [if_neg h]
    exact ⟨0, by simp, le_rfl, fun h' => absurd h' h⟩

theorem kGate_real (l : Fin 16 → EReal) (hl : ∀ e, ∃ r : ℝ, l e = (r : EReal)) (e : Fin 16) :
    ∃ r : ℝ, kGate l e = (r : EReal) ∧ 0 ≤ r ∧ (rank l e < 8 → 0 < r) ∧ (¬ rank l e < 8 → r = 0) := by
  choose f hf h0 hpos using kP_real l hl
  have hs : ∑ j, kP l j = ((∑ j, f j : ℝ) : EReal) := by
    rw [coe_sum]
    exact Finset.sum_congr rfl fun j _ => hf j
  have hS : 0 < ∑ j, f j := by
    refine Finset.sum_pos' (fun j _ => h0 j) ⟨src l 0, Finset.mem_univ _, hpos _ ?_⟩
    rw [rank_src]; decide
  unfold kGate
  rw [hs, hf, Ideal.div_coe hS.ne', one_div, ← EReal.coe_mul]
  refine ⟨f e * (∑ j, f j)⁻¹, rfl, mul_nonneg (h0 e) (inv_nonneg.mpr hS.le), fun h => mul_pos (hpos e h) (inv_pos.mpr hS), fun h => ?_⟩
  have : kP l e = 0 := by unfold kP; rw [if_neg h]
  rw [hf] at this
  have : f e = 0 := by exact_mod_cast this
  rw [this, zero_mul]

/-- For finite logits the two gates of an expert are equal. -/
theorem gate_eq (l : Fin 16 → EReal) (hl : ∀ e, ∃ r : ℝ, l e = (r : EReal)) (e : Fin 16) : rGate l e = kGate l e := by
  unfold rGate
  rw [zero_add, zero_add]
  obtain ⟨p, rfl⟩ := (src_bij l).2 e
  by_cases h : p.val < 8
  · rw [Finset.sum_eq_single (⟨p.val, h⟩ : Fin 8)]
    · rw [if_pos (by congr 1)]
      unfold kGate
      rw [sum_kP, kP_src, if_pos h]
      unfold rP rTop
      rw [rMax_eq]
      rfl
    · intro q _ hq
      rw [if_neg]
      intro e
      apply hq
      have := (src_bij l).1 e
      exact Fin.ext (show (q : ℕ) = p by rw [← this]; rfl)
    · exact fun h' => absurd (Finset.mem_univ _) h'
  · rw [Finset.sum_eq_zero]
    · obtain ⟨r, hr, _, _, hz⟩ := kGate_real l hl (src l p)
      rw [hr, hz (by rw [rank_src]; exact h)]
      simp
    · intro q _
      rw [if_neg]
      intro e
      have := congrArg Fin.val ((src_bij l).1 e)
      simp at this
      have := q.isLt
      omega

end Cert.Gates

end
-- ==== Proof.KernelGateVec.lean ====
/-
  The gates the kernel computes at its first point, as one vector function of the logits: the ranking written once per expert.
-/
module

public import proofs.«01_k».proof.Proof.KernelFirst
public import proofs.«01_k».proof.Proof.Gates

@[expose] public section

noncomputable section

namespace Cert.KernelIdeal.Read

open Cert.KernelIdeal Cert.KernelIdeal.Gen Cert.Quantiser Cert.Gates Idealize.ShloMosaic Idealize.ShloMosaic.TcCoe Idealize.SL.Sem

section
variable {F : FTy → Type} [FloatOps F]

/-- One comparison of the ranking: for each token and expert, 1 where expert `j` goes before it. -/
def laneV (l : FVec F S1024x16 .f32) (j : Nat) (h : S1024x16.Slices (![0, j] : Fin 2 → Nat) S1024x1) : IVec S1024x16 32 :=
  extui 32 (ori (cmpf .ogt (broadcastTo S1024x16 (extractStridedSlice S1024x1 ![0, j] l h) broadcasts_S1024x1_S1024x16) l)
    (andi (cmpf .oeq (broadcastTo S1024x16 (extractStridedSlice S1024x1 ![0, j] l h) broadcasts_S1024x1_S1024x16) l)
      (cmpi .sgt (iota .tc S1024x16 32 [1] iota_S1024x16_d1_w32) (broadcast S1024x16 (BitVec.ofNat 32 j))))) natLt_1_32

/-- The ranks: how many experts go before each. -/
def rankV (l : FVec F S1024x16 .f32) : IVec S1024x16 32 :=
  addi (addi (addi (addi (addi (addi (addi (addi (addi (addi (addi (addi (addi (addi (addi (addi (broadcast S1024x16 0#32)
    (laneV l 0 slices_S1024x16_o0_0_S1024x1)) (laneV l 1 slices_S1024x16_o0_1_S1024x1)) (laneV l 2 slices_S1024x16_o0_2_S1024x1))
    (laneV l 3 slices_S1024x16_o0_3_S1024x1)) (laneV l 4 slices_S1024x16_o0_4_S1024x1)) (laneV l 5 slices_S1024x16_o0_5_S1024x1))
    (laneV l 6 slices_S1024x16_o0_6_S1024x1)) (laneV l 7 slices_S1024x16_o0_7_S1024x1)) (laneV l 8 slices_S1024x16_o0_8_S1024x1))
    (laneV l 9 slices_S1024x16_o0_9_S1024x1)) (laneV l 10 slices_S1024x16_o0_10_S1024x1)) (laneV l 11 slices_S1024x16_o0_11_S1024x1))
    (laneV l 12 slices_S1024x16_o0_12_S1024x1)) (laneV l 13 slices_S1024x16_o0_13_S1024x1)) (laneV l 14 slices_S1024x16_o0_14_S1024x1))
    (laneV l 15 slices_S1024x16_o0_15_S1024x1)

/-- The exponentials of the eight chosen logits, 0 elsewhere. -/
def chosenV (l : FVec F S1024x16 .f32) : FVec F S1024x16 .f32 :=
  select (cmpi .slt (rankV l) (broadcast S1024x16 8#32))
    (exp (subf l (broadcastTo S1024x16 (shapeCast S1024x1 (multiReduction .maximumf [1] S1024 l 0xFF800000#32 reduces_S1024x16_S1024 (.inl rfl) rfl)
      shapeCasts_S1024_S1024x1) broadcasts_S1024x1_S1024x16)))
    (broadcast S1024x16 (Scalar.ofBits .f32 0x00000000#32))

/-- The gates. -/
def gateV (l : FVec F S1024x16 .f32) : FVec F S1024x16 .f32 :=
  divf (chosenV l) (broadcastTo S1024x16 (shapeCast S1024x1 (multiReduction .add [1] S1024 (chosenV l) 0x00000000#32 reduces_S1024x16_S1024 (.inl rfl) rfl)
    shapeCasts_S1024_S1024x1) broadcasts_S1024x1_S1024x16)

end

theorem gatesX_eq (x0 : Vec Ideal S1024x2048 .bf16) (x1 : Vec Ideal S2048x16 .f32) :
    gatesX x0 x1 = shapeCast S1024x16 (gateV (k0_pay4 x0 x1)) shapeCasts_S1024x16_S1024x16 := rfl

end Cert.KernelIdeal.Read

end
-- ==== Proof.KernelGates.lean ====
/-
  The first point's vectors read at an index: the gates of the tokens.
-/
module

public import proofs.«01_k».proof.Proof.KernelGateVec
public import proofs.«01_k».proof.Proof.Gates

@[expose] public section

noncomputable section

namespace Cert.KernelIdeal.Read

open Cert.KernelIdeal Cert.KernelIdeal.Gen Cert.Quantiser Cert.Gates Idealize.ShloMosaic Idealize.ShloMosaic.TcCoe Idealize.SL.Sem

theorem lane_apply (l : FVec Ideal S1024x16 .f32) (j : Fin 16) (h : S1024x16.Slices (![0, j.val] : Fin 2 → Nat) S1024x1) (r : Fin 1024) (e : Fin 16) :
    laneV l j.val h (ix2 r e) = BitVec.ofNat 32 (before (fun e => l (ix2 r e)) j e).toNat := by
  unfold laneV before
  pointwise
  have hs : IntOp.cmpi .sgt (BitVec.ofNat 32 e.val) (BitVec.ofNat 32 j.val) = BitVec.ofBool (decide (j < e)) := by
    revert e j
    decide
  rw [hs]
  cases decide (l (ix2 r e) < l (ix2 r j)) <;> cases decide (l (ix2 r j) = l (ix2 r e)) <;> cases decide (j < e) <;> rfl

theorem rank_count (l : Fin 16 → EReal) (e : Fin 16) : rank l e = ∑ j : Fin 16, (before l j e).toNat := by
  unfold rank
  rw [Finset.card_filter]
  exact Finset.sum_congr rfl fun j _ => by cases before l j e <;> rfl

/-- Sixteen words added up from zero. -/
theorem chain (f : Fin 16 → ℕ) :
    0#32 + BitVec.ofNat 32 (f ⟨0, by norm_num⟩) + BitVec.ofNat 32 (f ⟨1, by norm_num⟩) + BitVec.ofNat 32 (f ⟨2, by norm_num⟩) +
      BitVec.ofNat 32 (f ⟨3, by norm_num⟩) + BitVec.ofNat 32 (f ⟨4, by norm_num⟩) + BitVec.ofNat 32 (f ⟨5, by norm_num⟩) +
      BitVec.ofNat 32 (f ⟨6, by norm_num⟩) + BitVec.ofNat 32 (f ⟨7, by norm_num⟩) + BitVec.ofNat 32 (f ⟨8, by norm_num⟩) +
      BitVec.ofNat 32 (f ⟨9, by norm_num⟩) + BitVec.ofNat 32 (f ⟨10, by norm_num⟩) + BitVec.ofNat 32 (f ⟨11, by norm_num⟩) +
      BitVec.ofNat 32 (f ⟨12, by norm_num⟩) + BitVec.ofNat 32 (f ⟨13, by norm_num⟩) + BitVec.ofNat 32 (f ⟨14, by norm_num⟩) +
      BitVec.ofNat 32 (f ⟨15, by norm_num⟩) = BitVec.ofNat 32 (∑ j, f j) := by
  rw [show (∑ j, f j) = 0 + f ⟨0, by norm_num⟩ + f ⟨1, by norm_num⟩ + f ⟨2, by norm_num⟩ + f ⟨3, by norm_num⟩ + f ⟨4, by norm_num⟩ +
    f ⟨5, by norm_num⟩ + f ⟨6, by norm_num⟩ + f ⟨7, by norm_num⟩ + f ⟨8, by norm_num⟩ + f ⟨9, by norm_num⟩ + f ⟨10, by norm_num⟩ +
    f ⟨11, by norm_num⟩ + f ⟨12, by norm_num⟩ + f ⟨13, by norm_num⟩ + f ⟨14, by norm_num⟩ + f ⟨15, by norm_num⟩ by
      simp only [Fin.sum_univ_castSucc, Fin.sum_univ_zero]; rfl]
  simp only [BitVec.ofNat_add]

theorem rank_apply (l : FVec Ideal S1024x16 .f32) (r : Fin 1024) (e : Fin 16) :
    rankV l (ix2 r e) = BitVec.ofNat 32 (rank (fun e => l (ix2 r e)) e) := by
  rw [rank_count]
  have h0 : ∀ (j : Nat) (hj : j < 16) h, laneV l j h (ix2 r e) = BitVec.ofNat 32 (before (fun e => l (ix2 r e)) ⟨j, hj⟩ e).toNat :=
    fun j hj h => lane_apply l ⟨j, hj⟩ h r e
  unfold rankV
  simp only [addi, IntOp.addi]
  rw [h0 0 (by norm_num), h0 1 (by norm_num), h0 2 (by norm_num), h0 3 (by norm_num), h0 4 (by norm_num), h0 5 (by norm_num),
    h0 6 (by norm_num), h0 7 (by norm_num), h0 8 (by norm_num), h0 9 (by norm_num), h0 10 (by norm_num), h0 11 (by norm_num),
    h0 12 (by norm_num), h0 13 (by norm_num), h0 14 (by norm_num), h0 15 (by norm_num)]
  exact chain fun j => (before (fun e => l (ix2 r e)) j e).toNat

/-- The gates at an index, over the token's logits. -/
theorem gateV_apply (l : FVec Ideal S1024x16 .f32) (r : Fin 1024) (e : Fin 16) :
    gateV l (ix2 r e) = kGate (fun e => l (ix2 r e)) e := by
  have hc : ∀ e, chosenV l (ix2 r e) = kP (fun e => l (ix2 r e)) e := by
    intro e
    unfold chosenV kP top
    pointwise [rank_apply]
    have hs : ∀ n : ℕ, n ≤ 16 → IntOp.cmpi .slt (BitVec.ofNat 32 n) 8#32 = BitVec.ofBool (decide (n < 8)) := by
      intro n hn
      interval_cases n <;> rfl
    rw [hs _ (Finset.card_le_univ _), ofBits_ninf]
    unfold Scalar.select
    by_cases h : rank (fun e => l (ix2 r e)) e < 8 <;> simp [h]
  unfold gateV kGate
  pointwise
  simp only [hc]

end Cert.KernelIdeal.Read

end
-- ==== Proof.KernelLogits.lean ====
/-
  The kernel's logits and gates at an index: a row of the tokens against a column of the router.
-/
module

public import proofs.«01_k».proof.Proof.KernelGates
public import Idealize.ShloMosaic.PureOps.Ideal.Laws

@[expose] public section

noncomputable section

namespace Cert.KernelIdeal.Read

open Cert.KernelIdeal Cert.KernelIdeal.Gen Idealize.ShloMosaic Idealize.ShloMosaic.TcCoe Idealize.SL.Sem Cert.Gates

/-- The tokens widened and cast to their own shape are the tokens. -/
theorem wide_apply (x0 : Vec Ideal S1024x2048 .bf16) (r : Fin 1024) (k : Fin 2048) : k0_pay3 x0 (ix2 r k) = x0 (ix2 r k) := by
  pointwise [k0_pay3]

/-- A logit. -/
theorem logit_apply (x0 : Vec Ideal S1024x2048 .bf16) (x1 : Vec Ideal S2048x16 .f32) (r : Fin 1024) (e : Fin 16) :
    k0_pay4 x0 x1 (ix2 r e) = ∑ k : Fin 2048, x0 (ix2 r k) * x1 (ix2 k e) := by
  unfold k0_pay4
  generalize hw : k0_pay3 x0 = w
  pointwise
  subst hw
  simp only [wide_apply]

/-- The gates the first point stores. -/
theorem gatesX_apply (x0 : Vec Ideal S1024x2048 .bf16) (x1 : Vec Ideal S2048x16 .f32) (r : Fin 1024) (e : Fin 16) :
    gatesX x0 x1 (ix2 r e) = kGate (fun e => ∑ k : Fin 2048, x0 (ix2 r k) * x1 (ix2 k e)) e := by
  rw [gatesX_eq, shapeCast_self, gateV_apply]
  simp only [logit_apply]

end Cert.KernelIdeal.Read

end
-- ==== Proof.KernelCodes.lean ====
/-
  The first point's vectors read at an index: the codes and the scales of the tokens.
-/
module

public import proofs.«01_k».proof.Proof.KernelFirst
public import proofs.«01_k».proof.Proof.Gates

@[expose] public section

noncomputable section

namespace Cert.KernelIdeal.Read

open Cert.KernelIdeal Cert.KernelIdeal.Gen Cert.Quantiser Cert.Gates Idealize.ShloMosaic Idealize.ShloMosaic.TcCoe Idealize.SL.Sem

/-- A row's largest magnitude, at any sizes. -/
theorem amax_row {m n : Nat} (v : FVec Ideal ⟨2, ![m, n]⟩ .f32) (h : Shape.Reduces ⟨2, ![m, n]⟩ [1] ⟨1, ![m]⟩) (r : Fin m) :
    multiReduction .maximumf [1] ⟨1, ![m]⟩ (absf v) 0xFF800000#32 h (.inl rfl) rfl (ix1 r) = amax fun k => v (ix2 r k) := by
  unfold amax
  have habs : ∀ x : EReal, FloatOps.absf (F := Ideal) (φ := .f32) x = max x (-x) := fun _ => rfl
  pointwise
  simp only [ofBits_ninf, habs]

theorem col_apply (m : FVec Ideal S1024 .f32) (r : Fin 1024) :
    mulf (shapeCast S1024x1 m shapeCasts_S1024_S1024x1) (broadcast S1024x1 (Scalar.ofBits .f32 0x3B124925#32)) (ix2 r 0) = m (ix1 r) * cQ := by
  unfold cQ
  pointwise

theorem amaxX_apply (x0 : Vec Ideal S1024x2048 .bf16) (r : Fin 1024) :
    k0_pay12 (k0_pay3 x0) (ix2 r 0) = (amax fun k => x0 (ix2 r k)) * cQ := by
  have hb : ∀ k, k0_pay3 x0 (ix2 r k) = x0 (ix2 r k) := fun k => by pointwise [k0_pay3]
  unfold k0_pay12
  dsimp only
  rw [col_apply, amax_row (k0_pay3 x0) reduces_S1024x2048_S1024 r]
  simp only [hb]

theorem codesX_apply (x0 : Vec Ideal S1024x2048 .bf16) (r : Fin 1024) (k : Fin 2048) :
    codesX x0 (ix2 r k) = code (kInv (amax fun k => x0 (ix2 r k))) (x0 (ix2 r k)) := by
  have h : codesX x0 = shapeCast S1024x2048 (truncf .fp8e4m3 (minimumf (broadcast S1024x2048 (Scalar.ofBits .f32 0x43E00000#32))
      (maximumf (broadcast S1024x2048 (Scalar.ofBits .f32 0xC3E00000#32))
      (mulf (k0_pay3 x0) (broadcastTo S1024x2048 (Block.invV (k0_pay12 (k0_pay3 x0))) broadcasts_S1024x1_S1024x2048)))) bitsLt_fp8e4m3_f32) shapeCasts_S1024x2048_S1024x2048 := rfl
  rw [h]
  have ha := amaxX_apply x0 r
  have hb : k0_pay3 x0 (ix2 r k) = x0 (ix2 r k) := by pointwise [k0_pay3]
  pointwise
  rw [hb, Rows.invV_apply _ _ _ ha, ofBits_448, ofBits_neg448]
  rfl

theorem scaleX_apply (x0 : Vec Ideal S1024x2048 .bf16) (r : Fin 1024) :
    scaleX x0 (ix2 r 0) = kScale (amax fun k => x0 (ix2 r k)) := by
  have h : scaleX x0 = shapeCast S1024x1 (Block.scaleV (k0_pay12 (k0_pay3 x0))) shapeCasts_S1024x1_S1024x1 := rfl
  rw [h]
  pointwise
  exact Rows.scaleV_apply _ _ _ (amaxX_apply x0 r)

end Cert.KernelIdeal.Read

end
-- ==== Proof.KernelFold.lean ====
/-
  The kernel's run over its sixteen points, one expert each: the first point leaves the codes, the scales and the gates in
  their buffers, every later point carries them, and the accumulator holds the sum of the experts' addends so far. The result
  array is the sum over all of them.
-/
module

public import proofs.«01_k».proof.Proof.KernelLogits
public import proofs.«01_k».proof.Proof.KernelCodes
public import Idealize.ShloMosaic.Lib.Pipeline.ValueKit
public import Idealize.ShloMosaic.Lib.Claim

@[expose] public section

noncomputable section

namespace Cert.KernelIdeal.Read

open Cert.KernelIdeal Cert.KernelIdeal.Gen Idealize.ShloMosaic Idealize.ShloMosaic.TcCoe Idealize.SL.Sem
open Cert.KernelIdeal.Value Cert.Quantiser Cert.Gates

variable (m : (ℓ : Loc nD τ sig) → Buf (Elt Ideal) ℓ) (c : Dev nD)

/-! ## The blocks a point reads -/

theorem coord_val : ∀ t : Fin cfg0.N, (grid0.coords t 0).val = t.val := by decide +kernel

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![t.val, 0, 0] := by decide +kernel
theorem index_3 : ∀ t : Fin cfg0.N, win0_3.index t = ![t.val, 0, 0] := by decide +kernel
theorem index_4 : ∀ t : Fin cfg0.N, win0_4.index t = ![t.val, 0, 0] := by decide +kernel
theorem index_5 : ∀ t : Fin cfg0.N, win0_5.index t = ![t.val, 0, 0] := by decide +kernel

/-- A table cast to blocks of one row, at an index. -/
theorem rows_cast {a b : Nat} (v : (⟨2, ![a, b]⟩ : Shape).Idx → EReal) (h : (⟨2, ![a, b]⟩ : Shape).ShapeCasts ⟨3, ![a, 1, b]⟩) (e : Fin a) (n : Fin b) :
    shapeCast ⟨3, ![a, 1, b]⟩ v h (ix3 e 0 n) = v (ix2 e n) :=
  shapeCast_apply v h _ _ (by
    rw [Shape.rowMajor_val_two, Shape.rowMajor_val_three]
    show e.val * b + n.val = (e.val * 1 + 0) * b + n.val
    rw [Nat.mul_one, Nat.add_zero])

/-- The tokens as the kernel sees them. -/
def toks : Vec Ideal S1024x2048 .bf16 := shapeCast S1024x2048 (m ((c : Thread nD τ).loc main_arg0)) shapeCasts_S4x256x2048_S1024x2048

theorem entry_0 : V m c main_v0 = toks m c := by
  entry_read
  rfl
theorem entry_3 : V m c main_v1 = (shapeCast S16x1x1536 (m ((c : Thread nD τ).loc main_arg3)) shapeCasts_S16x1536_S16x1x1536 : Vec Ideal S16x1x1536 .f32) := by
  entry_read
  rfl
theorem entry_5 : V m c main_v2 = (shapeCast S16x1x2048 (m ((c : Thread nD τ).loc main_arg5)) shapeCasts_S16x2048_S16x1x2048 : Vec Ideal S16x1x2048 .f32) := by
  entry_read
  rfl

theorem blk_0 (t : Fin cfg0.N) (r : Fin 1024) (k : Fin 2048) :
    (iblk m c 0 t : Vec Ideal S1024x2048 .bf16) (ix2 r k) = toks m c (ix2 r k) := by
  blk_ext [iblk, entry_0, index_0 t]
theorem blk_1 (t : Fin cfg0.N) (k : Fin 2048) (e : Fin 16) :
    (iblk m c 1 t : Vec Ideal S2048x16 .f32) (ix2 k e) = m ((c : Thread nD τ).loc main_arg1) (ix2 k e) := by
  blk_ext [iblk, V_main_arg1, index_1 t]
theorem blk_2 (t : Fin cfg0.N) (k : Fin 2048) (n : Fin 1536) :
    (iblk m c 2 t : Vec Ideal S1x2048x1536 .fp8e4m3) (ix3 0 k n) = m ((c : Thread nD τ).loc main_arg2) (ix3 (grid0.coords t 0) k n) := by
  blk_ext [iblk, V_main_arg2, index_2 t, coord_val t]
theorem blk_3 (t : Fin cfg0.N) (n : Fin 1536) :
    (iblk m c 3 t : Vec Ideal S1x1x1536 .f32) (ix3 0 0 n) = m ((c : Thread nD τ).loc main_arg3) (ix2 (grid0.coords t 0) n) := by
  refine Eq.trans (b := (V m c main_v1 : Vec Ideal S16x1x1536 .f32) (ix3 (grid0.coords t 0) 0 n)) ?_ ?_
  · blk_ext [iblk, index_3 t, coord_val t]
  · rw [entry_3]; exact rows_cast _ _ _ _
theorem blk_4 (t : Fin cfg0.N) (n : Fin 768) (q : Fin 2048) :
    (iblk m c 4 t : Vec Ideal S1x768x2048 .fp8e4m3) (ix3 0 n q) = m ((c : Thread nD τ).loc main_arg4) (ix3 (grid0.coords t 0) n q) := by
  blk_ext [iblk, V_main_arg4, index_4 t, coord_val t]
theorem blk_5 (t : Fin cfg0.N) (q : Fin 2048) :
    (iblk m c 5 t : Vec Ideal S1x1x2048 .f32) (ix3 0 0 q) = m ((c : Thread nD τ).loc main_arg5) (ix2 (grid0.coords t 0) q) := by
  refine Eq.trans (b := (V m c main_v2 : Vec Ideal S16x1x2048 .f32) (ix3 (grid0.coords t 0) 0 q)) ?_ ?_
  · blk_ext [iblk, index_5 t, coord_val t]
  · rw [entry_5]; exact rows_cast _ _ _ _

/-! ## One point -/

/-- The router, as launched. -/
abbrev router : Vec Ideal S2048x16 .f32 := m ((c : Thread nD τ).loc main_arg1)

theorem whole_0 (t : Fin cfg0.N) : (iblk m c 0 t : Vec Ideal S1024x2048 .bf16) = toks m c := by
  funext x
  have hx : x = ix2 (x 0) (x 1) := by idx_vars x; rfl
  rw [hx]; exact blk_0 m c t _ _
theorem whole_1 (t : Fin cfg0.N) : (iblk m c 1 t : Vec Ideal S2048x16 .f32) = router m c := by
  funext x
  have hx : x = ix2 (x 0) (x 1) := by idx_vars x; rfl
  rw [hx]; exact blk_1 m c t _ _

/-- The addend of the expert of point `t`. -/
def term (t : Fin cfg0.N) (r : Fin 1024) (q : Fin 2048) : EReal :=
  Rows.addend (codesX (toks m c)) (scaleX (toks m c)) (gatesX (toks m c) (router m c) (ix2 r (grid0.coords t 0)))
    (iblk m c 2 t) (iblk m c 3 t) (iblk m c 4 t) (iblk m c 5 t) r q

/-- What the buffers hold: the codes, the scales, the gates, and an accumulator. -/
def Holds (st : Vec Ideal S1024x2048 .bf16 × Vec Ideal S1024x2048 .fp8e4m3 × Vec Ideal S1024x1 .f32 × Vec Ideal S1024x16 .f32 × Vec Ideal S1024x2048 .f32)
    (A : Fin 1024 → Fin 2048 → EReal) : Prop :=
  st.2.1 = codesX (toks m c) ∧ st.2.2.1 = scaleX (toks m c) ∧ st.2.2.2.1 = gatesX (toks m c) (router m c) ∧ ∀ r q, st.2.2.2.2 (ix2 r q) = A r q

theorem step_A (t : Fin cfg0.N) (acc) (h0 : t.val % 16 = 0) : Holds m c (stAt0 m c t.val t.isLt acc) (term m c t) := by
  unfold Holds term
  rw [stAt0_A m c t acc h0 (by omega)]
  dsimp only
  refine ⟨?_, ?_, ?_, fun r q => ?_⟩
  · rw [first_0, whole_0]
  · rw [first_1, whole_0]
  · rw [first_2, whole_0, whole_1]
  · rw [first_3, whole_0, whole_1]

theorem step_B (t : Fin cfg0.N) (acc) (A) (h : Holds m c acc A) (h0 : ¬t.val % 16 = 0) (h1 : ¬t.val % 16 = 15) :
    Holds m c (stAt0 m c t.val t.isLt acc) fun r q => A r q + term m c t r q := by
  unfold Holds at h ⊢
  unfold term
  rw [stAt0_B m c t acc h0 h1]
  dsimp only
  obtain ⟨a0, a1, a2, a3⟩ := h
  refine ⟨?_, ?_, ?_, fun r q => ?_⟩
  · rw [← a0]; rfl
  · rw [← a1]; rfl
  · rw [← a2]; rfl
  · rw [acc_B, a0, a1, a2, a3]

theorem step_C (t : Fin cfg0.N) (acc) (A) (h : Holds m c acc A) (h0 : ¬t.val % 16 = 0) (h1 : t.val % 16 = 15) (r : Fin 1024) (q : Fin 2048) :
    (stAt0 m c t.val t.isLt acc).1 (ix2 r q) = A r q + term m c t r q := by
  unfold Holds at h
  unfold term
  rw [stAt0_C m c t acc h0 h1]
  dsimp only
  obtain ⟨a0, a1, a2, a3⟩ := h
  rw [out_C, a0, a1, a2, a3]

/-! ## All of them -/

theorem held (n : ℕ) (hn : n < 15) (h : 0 + n < cfg0.N) :
    Holds m c (Pipeline.accAt (fun n h => stAt0 m c n h junk0) (stAt0 m c) 0 n h) fun r q => ∑ e ∈ Finset.range (n + 1), if he : e < cfg0.N then term m c ⟨e, he⟩ r q else 0 := by
  have hN : cfg0.N = 16 := N_0
  induction n with
  | zero =>
    have hs : (fun r q => ∑ e ∈ Finset.range (0 + 1), if he : e < cfg0.N then term m c ⟨e, he⟩ r q else 0) = term m c ⟨0, h⟩ := by
      funext r q
      rw [Finset.sum_range_one]
      exact dif_pos h
    rw [hs, Pipeline.accAt_zero]
    exact step_A m c ⟨0, h⟩ junk0 rfl
  | succ n ih =>
    have ih := ih (by omega) (by omega)
    have e : 0 + (n + 1) = n + 1 := by omega
    have hb : n + 1 < cfg0.N := by omega
    have := step_B m c ⟨n + 1, hb⟩ _ _ ih (by show ¬(n + 1) % 16 = 0; omega) (by show ¬(n + 1) % 16 = 15; omega)
    rw [Pipeline.accAt_succ]
    simp only [Finset.sum_range_succ _ (n + 1), dif_pos hb]
    have hs : ∀ (a b : ℕ) (ha : a < cfg0.N) (hb : b < cfg0.N) (acc), a = b → stAt0 m c a ha acc = stAt0 m c b hb acc := by
      intro a b ha hb acc hab; subst hab; rfl
    rw [hs _ _ h hb _ e]
    exact this

/-- The result array is the sum of the experts' addends. -/
theorem result_apply (r : Fin 1024) (q : Fin 2048) : G6 m c (ix2 r q) = ∑ e : Fin 16, term m c (e.cast N_0.symm) r q := by
  have hN : cfg0.N = 16 := N_0
  have hb : 15 < cfg0.N := by omega
  rw [G6_last, Pipeline.accAt_succ]
  have hs : ∀ (a b : ℕ) (ha : a < cfg0.N) (hb : b < cfg0.N) (acc), a = b → stAt0 m c a ha acc = stAt0 m c b hb acc := by
    intro a b ha hb acc hab; subst hab; rfl
  rw [hs (0 + (14 + 1)) 15 _ hb _ rfl, step_C m c ⟨15, hb⟩ _ _ (held m c 14 (by omega) (by omega)) (by show ¬15 % 16 = 0; omega) (by show 15 % 16 = 15; omega) r q]
  rw [Fin.sum_univ_castSucc, ← Fin.sum_univ_eq_sum_range (fun e => if he : e < cfg0.N then term m c ⟨e, he⟩ r q else 0) 15]
  refine congrArg₂ (· + ·) (Finset.sum_congr rfl fun e _ => ?_) rfl
  exact dif_pos (by omega)

end Cert.KernelIdeal.Read

end
-- ==== Proof.HostGates.lean ====
/-
  The reference's gates at an index: the logits, the eight largest with their experts, the softmax over them, and the sum
  that puts each at its expert.
-/
module

public import proofs.«01_k».proof.Proof.Gen.ReferenceIdeal.Value
public import Idealize.ShloMosaic.Lib.Pointwise
public import proofs.«01_k».proof.Proof.Quantiser
public import proofs.«01_k».proof.Proof.Gates

@[expose] public section

noncomputable section

namespace Cert.ReferenceIdeal.Read

open Cert.ReferenceIdeal Cert.ReferenceIdeal.Gen Cert.Quantiser Cert.Gates Idealize.ShloMosaic Idealize.ShloMosaic.TcCoe Idealize.SL.Sem

/-! ## The operations -/

/-- The logits. -/
def logitsH (x : Vec Ideal S1024x2048 .bf16) (w : FVec Ideal S2048x16 .f32) : FVec Ideal S1024x16 .f32 :=
  Host.dotGeneral dot_S1024x2048_S2048x16_S1024x16_1_0_0_1_n_n none (extf (F := Ideal) (φ := .bf16) .f32 x bitsLt_bf16_f32) w

/-- The eight largest logits of each token, and their experts. -/
def topH (L : FVec Ideal S1024x16 .f32) : FVec Ideal S1024x8 .f32 := (Host.topK S1024x8 1 (FloatOps.cmpfTotal (F := Ideal) (φ := .f32) .gt) L sliceFits_S1024x16_S1024x8).1
def placesH (L : FVec Ideal S1024x16 .f32) : IVec S1024x8 32 := (Host.topK S1024x8 1 (FloatOps.cmpfTotal (F := Ideal) (φ := .f32) .gt) L sliceFits_S1024x16_S1024x8).2

/-- Their exponentials, shifted by the largest. -/
def expH (V : FVec Ideal S1024x8 .f32) : FVec Ideal S1024x8 .f32 :=
  Host.exp (subf V (broadcastInDim S1024x8 ![0, 1] bcast_S1024x1_S1024x8_0_1 (broadcastInDim S1024x1 ![0] bcast_S1024_S1024x1_0
    (maximumf (broadcastInDim S1024 ![] bcast_S_S1024 (constant S_ .f32 0xFF800000#32))
      (Host.reduce FloatOps.maximumf V (constant S_ .f32 0xFF800000#32) reducesTo_S1024x8_S1024_d1 h_S_)))))

/-- Each over their sum. -/
def overH (E : FVec Ideal S1024x8 .f32) : FVec Ideal S1024x8 .f32 :=
  Host.divf E (broadcastInDim S1024x8 ![0, 1] bcast_S1024x1_S1024x8_0_1 (broadcastInDim S1024x1 ![0] bcast_S1024_S1024x1_0
    (Host.reduceAdd E (constant S_ .f32 0x00000000#32) reducesTo_S1024x8_S1024_d1 h_S_)))

/-- Each at its expert: for every expert, the sum of those that name it. -/
def spreadH (I : IVec S1024x8 32) (P : FVec Ideal S1024x8 .f32) : FVec Ideal S16x1024x1 .f32 :=
  broadcastInDim S16x1024x1 ![0, 1] bcast_S16x1024_S16x1024x1_0_1
    (Host.reduceAdd
      (select
        (cmpi .eq (broadcastInDim S16x1024x8 ![0, 1, 2] bcast_S1x1024x8_S16x1024x8_0_1_2 (broadcastInDim S1x1024x8 ![1, 2] bcast_S1024x8_S1x1024x8_1_2 I))
          (broadcastInDim S16x1024x8 ![0, 1, 2] bcast_S16x1x1_S16x1024x8_0_1_2 (broadcastInDim S16x1x1 ![0] bcast_S16_S16x1x1_0 (iotaInDim S16 32 0))))
        (broadcastInDim S16x1024x8 ![0, 1, 2] bcast_S1x1024x8_S16x1024x8_0_1_2 (broadcastInDim S1x1024x8 ![1, 2] bcast_S1024x8_S1x1024x8_1_2 P))
        (broadcastInDim S16x1024x8 ![] bcast_S_S16x1024x8 (constant S_ .f32 0x00000000#32)))
      (constant S_ .f32 0x00000000#32) reducesTo_S16x1024x8_S16x1024_d2 h_S_)

def gatesH (L : FVec Ideal S1024x16 .f32) : FVec Ideal S16x1024x1 .f32 := spreadH (placesH L) (overH (expH (topH L)))

/-! ## Their values -/

theorem logitsH_apply (x : Vec Ideal S1024x2048 .bf16) (w : FVec Ideal S2048x16 .f32) (r : Fin 1024) (e : Fin 16) :
    logitsH x w (ix2 r e) = ∑ k : Fin 2048, x (ix2 r k) * w (ix2 k e) := by
  unfold logitsH
  pointwise

theorem along_apply (r : Fin 1024) (e k : Fin 16) : Shape.Idx.along (s := S1024x16) (ix2 r e) 1 k = ix2 r k := by
  funext a
  match a with
  | ⟨0, _⟩ => rfl
  | ⟨1, _⟩ => rfl

/-- The position that the sort puts at place `p`. -/
theorem order_apply (L : FVec Ideal S1024x16 .f32) (r : Fin 1024) (p : Fin 16) :
    sortedFrom (fun k k' : Fin 16 => FloatOps.cmpfTotal (F := Ideal) (φ := .f32) .gt (L (ix2 r k)) (L (ix2 r k')) == 1#1) p = src (fun e => L (ix2 r e)) p := by
  have h : (fun k k' : Fin 16 => FloatOps.cmpfTotal (F := Ideal) (φ := .f32) .gt (L (ix2 r k)) (L (ix2 r k')) == 1#1) =
      fun i j => decide (L (ix2 r j) < L (ix2 r i)) := by
    funext i j
    rw [Ideal.cmpfTotal_def]
    by_cases h : L (ix2 r j) < L (ix2 r i)
    · simp [Ideal.cmp, CmpDirection.ordered, h]
    · simp [Ideal.cmp, CmpDirection.ordered, h]
  unfold src
  rw [h]

/-- A row sorted with its positions: the logit and the position at each place. -/
theorem sorted_apply (L : FVec Ideal S1024x16 .f32) (I : IVec S1024x16 32) (r : Fin 1024) (p : Fin 16) :
    (Host.sort2 S1024x16 1 (fun l r => FloatOps.cmpfTotal (F := Ideal) (φ := .f32) .gt l.1 r.1) L I).1 (ix2 r p) = L (ix2 r (src (fun e => L (ix2 r e)) p))
    ∧ (Host.sort2 S1024x16 1 (fun l r => FloatOps.cmpfTotal (F := Ideal) (φ := .f32) .gt l.1 r.1) L I).2 (ix2 r p) = I (ix2 r (src (fun e => L (ix2 r e)) p)) := by
  rw [← order_apply]
  unfold Host.sort2
  rw [dif_pos (by decide : 1 < S1024x16.rank)]
  have ha : ∀ (h : 1 < S1024x16.rank) (k : Fin 16), @Shape.Idx.along S1024x16 (ix2 r p) (⟨1, h⟩ : Fin S1024x16.rank) k = ix2 r k := fun _ => along_apply r p
  constructor
  · refine (congrArg L (ha _ _)).trans ?_
    refine congrArg (fun k => L (ix2 r k)) (congrArg (fun b => sortedFrom b p) ?_)
    funext k k'
    exact congrArg₂ (fun a b => FloatOps.cmpfTotal (F := Ideal) (φ := .f32) .gt (L a) (L b) == 1#1) (ha _ k) (ha _ k')
  · refine (congrArg I (ha _ _)).trans ?_
    refine congrArg (fun k => I (ix2 r k)) (congrArg (fun b => sortedFrom b p) ?_)
    funext k k'
    exact congrArg₂ (fun a b => FloatOps.cmpfTotal (F := Ideal) (φ := .f32) .gt (L a) (L b) == 1#1) (ha _ k) (ha _ k')

/-- The first eight places of a row, at an index. -/
theorem head_apply {α : Type} (v : S1024x16.Idx → α) (r : Fin 1024) (p : Fin 8) :
    extractStridedSlice S1024x8 (fun _ => 0) v sliceFits_S1024x16_S1024x8 (ix2 r p) = v (ix2 r (p.castLE (by norm_num))) := by
  unfold extractStridedSlice
  refine congrArg v (funext fun a => Fin.ext ?_)
  match a with
  | ⟨0, _⟩ => show 0 + r.val = r.val; omega
  | ⟨1, _⟩ => show 0 + p.val = p.val; omega

/-- The positions along a row. -/
def lanesH : IVec S1024x16 32 := fun i => if hd : 1 < S1024x16.rank then iotaInDim S1024x16 32 ⟨1, hd⟩ i else 0#32

theorem topH_apply (L : FVec Ideal S1024x16 .f32) (r : Fin 1024) (p : Fin 8) : topH L (ix2 r p) = rTop (fun e => L (ix2 r e)) p :=
  (head_apply (Host.sort2 S1024x16 1 (fun l r => FloatOps.cmpfTotal (F := Ideal) (φ := .f32) .gt l.1 r.1) L lanesH).1 r p).trans
    (sorted_apply L lanesH r _).1

theorem placesH_apply (L : FVec Ideal S1024x16 .f32) (r : Fin 1024) (p : Fin 8) :
    placesH L (ix2 r p) = BitVec.ofNat 32 (src (fun e => L (ix2 r e)) (p.castLE (by norm_num))).val :=
  (head_apply (Host.sort2 S1024x16 1 (fun l r => FloatOps.cmpfTotal (F := Ideal) (φ := .f32) .gt l.1 r.1) L lanesH).2 r p).trans
    (sorted_apply L lanesH r _).2

theorem expH_apply (V : FVec Ideal S1024x8 .f32) (r : Fin 1024) (p : Fin 8) :
    expH V (ix2 r p) = Ideal.exp (V (ix2 r p) - max ⊥ (Finset.univ.fold max ⊥ fun q : Fin 8 => V (ix2 r q))) := by
  unfold expH
  pointwise
  rw [ofBits_ninf]

theorem overH_apply (E : FVec Ideal S1024x8 .f32) (r : Fin 1024) (p : Fin 8) :
    overH E (ix2 r p) = Ideal.div (E (ix2 r p)) (0 + ∑ q : Fin 8, E (ix2 r q)) := by
  unfold overH
  pointwise

theorem spreadH_apply (I : IVec S1024x8 32) (P : FVec Ideal S1024x8 .f32) (e : Fin 16) (r : Fin 1024) :
    spreadH I P (ix3 e r 0) = 0 + ∑ p : Fin 8, if I (ix2 r p) = BitVec.ofNat 32 e.val then P (ix2 r p) else 0 := by
  unfold spreadH
  pointwise
  refine Finset.sum_congr rfl fun p _ => ?_
  by_cases h : I (ix2 r p) = BitVec.ofNat 32 e.val
  · simp [IntOp.cmpi, Scalar.select, h]
  · have hb : (I (ix2 r p) == BitVec.ofNat 32 e.val) = false := by simpa using h
    simp [IntOp.cmpi, Scalar.select, h, hb]

/-- The reference's gates are the eight largest logits' softmax, each at its expert. -/
theorem gatesH_apply (L : FVec Ideal S1024x16 .f32) (e : Fin 16) (r : Fin 1024) : gatesH L (ix3 e r 0) = rGate (fun e => L (ix2 r e)) e := by
  unfold gatesH
  rw [spreadH_apply]
  simp only [placesH_apply, overH_apply, expH_apply, topH_apply]
  unfold rGate
  refine congrArg (0 + ·) (Finset.sum_congr rfl fun p _ => ?_)
  have hi : ∀ a b : Fin 16, (BitVec.ofNat 32 a.val = BitVec.ofNat 32 b.val) ↔ a = b := by decide +kernel
  simp only [hi]
  rfl

end Cert.ReferenceIdeal.Read

end
-- ==== Proof.Reference.lean ====
/-
  The reference's expert computation at an index: the codes and scale of a token, the activation of an expert, its codes and
  scale, and the sum over the experts.
-/
module

public import proofs.«01_k».proof.Proof.Gen.ReferenceIdeal.Value
public import Idealize.ShloMosaic.Lib.Pointwise
public import proofs.«01_k».proof.Proof.Quantiser

@[expose] public section

noncomputable section

namespace Cert.ReferenceIdeal.Read

open Cert.ReferenceIdeal Cert.ReferenceIdeal.Gen Cert.Quantiser Idealize.ShloMosaic Idealize.ShloMosaic.TcCoe Idealize.SL.Sem

/-! ## Reductions, at any sizes -/

/-- A row's largest magnitude. -/
theorem amax_row {m n : Nat} (v : FVec Ideal ⟨2, ![m, n]⟩ .f32) (h : Shape.Reduces ⟨2, ![m, n]⟩ [1] ⟨1, ![m]⟩) (r : Fin m) :
    multiReduction .maximumf [1] ⟨1, ![m]⟩ (absf v) 0xFF800000#32 h (.inl rfl) rfl (ix1 r) = amax fun k => v (ix2 r k) := by
  unfold amax
  have habs : ∀ x : EReal, FloatOps.absf (F := Ideal) (φ := .f32) x = max x (-x) := fun _ => rfl
  pointwise
  simp only [ofBits_ninf, habs]

theorem amax_slab {a m n : Nat} (v : FVec Ideal ⟨3, ![a, m, n]⟩ .f32) (h : Shape.Reduces ⟨3, ![a, m, n]⟩ [2] ⟨2, ![a, m]⟩) (e : Fin a) (r : Fin m) :
    multiReduction .maximumf [2] ⟨2, ![a, m]⟩ (absf v) 0xFF800000#32 h (.inl rfl) rfl (ix2 e r) = amax fun k => v (ix3 e r k) := by
  unfold amax
  have habs : ∀ x : EReal, FloatOps.absf (F := Ideal) (φ := .f32) x = max x (-x) := fun _ => rfl
  pointwise
  simp only [ofBits_ninf, habs]

/-- A row's least entry. -/
theorem least_row {m n : Nat} (v : FVec Ideal ⟨2, ![m, n]⟩ .f32) (h : Shape.Reduces ⟨2, ![m, n]⟩ [1] ⟨1, ![m]⟩) (r : Fin m) :
    multiReduction .minimumf [1] ⟨1, ![m]⟩ v 0x7F800000#32 h (.inl rfl) rfl (ix1 r) = Finset.univ.fold min ⊤ fun k => v (ix2 r k) := by
  pointwise
  simp only [ofBits_inf]

theorem least_slab {a m n : Nat} (v : FVec Ideal ⟨3, ![a, m, n]⟩ .f32) (h : Shape.Reduces ⟨3, ![a, m, n]⟩ [2] ⟨2, ![a, m]⟩) (e : Fin a) (r : Fin m) :
    multiReduction .minimumf [2] ⟨2, ![a, m]⟩ v 0x7F800000#32 h (.inl rfl) rfl (ix2 e r) = Finset.univ.fold min ⊤ fun k => v (ix3 e r k) := by
  pointwise
  simp only [ofBits_inf]

/-- The sum of the slabs. -/
theorem sum_slabs {a m n : Nat} (v : FVec Ideal ⟨3, ![a, m, n]⟩ .f32) (h : Shape.Reduces ⟨3, ![a, m, n]⟩ [0] ⟨2, ![m, n]⟩) (r : Fin m) (q : Fin n) :
    multiReduction .add [0] ⟨2, ![m, n]⟩ v 0x00000000#32 h (.inl rfl) rfl (ix2 r q) = ∑ e : Fin a, v (ix3 e r q) := by
  pointwise

/-! ## A token's codes and scale -/

/-- The candidate exponents, as integers. -/
theorem place_val : ∀ k : Fin 270, ((BitVec.ofNat 32 k.val) - 148#32).toInt = ((k : ℕ) : ℤ) - 148 := by decide +kernel

/-- The largest magnitude of each token. -/
def big (v0 : Vec Ideal S1024x2048 .bf16) : FVec Ideal S1024x1 .f32 :=
  shapeCast S1024x1 (multiReduction .maximumf [1] S1024 (absf (extf .f32 (shapeCast S1024x2048 v0 shapeCasts_S1024x2048_S1024x2048) bitsLt_bf16_f32)) 0xFF800000#32 reduces_S1024x2048_S1024 (.inl rfl) rfl) shapeCasts_S1024_S1024x1

/-- The candidate exponents of each token: the exponent where its power of two is above the bound, the largest otherwise. -/
def cands (v5 : FVec Ideal S1024x1 .f32) : FVec Ideal S1024x270 .f32 :=
  have v7 : FVec Ideal S1024x1 .f32 := mulf v5 (broadcast S1024x1 (Scalar.ofBits .f32 0x3B124925#32))
  have v11 : FVec Ideal S1024x270 .f32 := sitofp .f32 (subi (iota .tc S1024x270 32 [1] iota_S1024x270_d1_w32) (broadcast S1024x270 148#32))
  select (cmpf .ogt (exp2 v11) (broadcastTo S1024x270 v7 broadcasts_S1024x1_S1024x270)) v11 (broadcast S1024x270 (Scalar.ofBits .f32 0x42F20000#32))

/-- The exponent of each token. -/
def expo (v5 : FVec Ideal S1024x1 .f32) : FVec Ideal S1024x1 .f32 :=
  select (cmpf .oeq v5 (broadcast S1024x1 (Scalar.ofBits .f32 0x00000000#32))) (broadcast S1024x1 (Scalar.ofBits .f32 0x00000000#32))
    (shapeCast S1024x1 (multiReduction .minimumf [1] S1024 (cands v5) 0x7F800000#32 reduces_S1024x270_S1024 (.inl rfl) rfl) shapeCasts_S1024_S1024x1)

/-- The codes of the tokens. -/
def codes (v0 : Vec Ideal S1024x2048 .bf16) (v22 : FVec Ideal S1024x1 .f32) : FVec Ideal S1024x2048 .fp8e4m3 :=
  have v28 : FVec Ideal S1024x2048 .f32 := mulf (extf .f32 (shapeCast S1024x2048 v0 shapeCasts_S1024x2048_S1024x2048) bitsLt_bf16_f32)
    (broadcastTo S1024x2048 (exp2 (subf (broadcast S1024x1 (Scalar.ofBits .f32 0x00000000#32)) v22)) broadcasts_S1024x1_S1024x2048)
  truncf .fp8e4m3 (minimumf (broadcast S1024x2048 (Scalar.ofBits .f32 0x43E00000#32)) (maximumf (broadcast S1024x2048 (Scalar.ofBits .f32 0xC3E00000#32)) v28)) bitsLt_fp8e4m3_f32

/-- The first product, scaled by the tokens' scales. -/
def prod (a : FVec Ideal S1024x2048 .fp8e4m3) (x : FVec Ideal S1024x1 .f32) (v37 : FVec Ideal S16x2048x1536 .fp8e4m3) : FVec Ideal S16x1024x1536 .f32 :=
  mulf (matmul dot_S16x1024x2048_S16x2048x1536_S16x1024x1536_2_1_1_2_0_0 none
      (broadcastTo S16x1024x2048 (shapeCast S1x1024x2048 (shapeCast S1x1024x2048 a shapeCasts_S1024x2048_S1x1024x2048) shapeCasts_S1x1024x2048_S1x1024x2048) broadcasts_S1x1024x2048_S16x1024x2048)
      v37 (constant S16x1024x1536 .f32 0x00000000#32))
    (broadcastTo S16x1024x1536 (shapeCast S1x1024x1 x shapeCasts_S1024x1_S1x1024x1) broadcasts_S1x1024x1_S16x1024x1536)

theorem pay2_eq (v0 : Vec Ideal S1024x2048 .bf16) (v37 : Vec Ideal S16x2048x1536 .fp8e4m3) :
    k0_pay2 v0 v37 = prod (codes v0 (expo (big v0))) (exp2 (expo (big v0))) v37 := rfl

/-- A vector cast to a column, at an index. -/
theorem col_apply (u : FVec Ideal S1024 .f32) (r : Fin 1024) : shapeCast S1024x1 u shapeCasts_S1024_S1024x1 (ix2 r 0) = u (ix1 r) := by
  pointwise

theorem big_apply (v0 : Vec Ideal S1024x2048 .bf16) (r : Fin 1024) : big v0 (ix2 r 0) = amax fun k => v0 (ix2 r k) := by
  unfold big
  have e : ∀ k, (extf .f32 (shapeCast S1024x2048 v0 shapeCasts_S1024x2048_S1024x2048) bitsLt_bf16_f32 : FVec Ideal S1024x2048 .f32) (ix2 r k) = v0 (ix2 r k) := fun k => by pointwise
  have h := amax_row (extf .f32 (shapeCast S1024x2048 v0 shapeCasts_S1024x2048_S1024x2048) bitsLt_bf16_f32 : FVec Ideal S1024x2048 .f32) reduces_S1024x2048_S1024 r
  simp only [e] at h
  rw [← h]
  exact col_apply _ r

theorem cands_apply (v5 : FVec Ideal S1024x1 .f32) (r : Fin 1024) (k : Fin 270) :
    cands v5 (ix2 r k) = if v5 (ix2 r 0) * cQ < Ideal.exp2 (rK k) then rK k else ((121 : ℝ) : EReal) := by
  unfold cands cQ rK
  pointwise
  have hs : (FloatOps.sitofp (F := Ideal) FTy.f32 (BitVec.ofNat 32 k.val - 148#32) : EReal) = ((((((k : ℕ) : ℤ) - 148 : ℤ) : ℝ)) : EReal) := by
    rw [← place_val k]; rfl
  simp only [IntOp.subi, hs, ofBits_121]
  rfl

theorem expo_apply (v5 : FVec Ideal S1024x1 .f32) (r : Fin 1024) : expo v5 (ix2 r 0) = rE (v5 (ix2 r 0)) := by
  unfold expo rE
  have h := (col_apply _ r).trans (least_row (cands v5) reduces_S1024x270_S1024 r)
  simp only [cands_apply] at h
  rw [← h]
  generalize shapeCast S1024x1 (multiReduction .minimumf [1] S1024 (cands v5) 0x7F800000#32 reduces_S1024x270_S1024 (.inl rfl) rfl) shapeCasts_S1024_S1024x1 = u
  pointwise

theorem codes_apply (v0 : Vec Ideal S1024x2048 .bf16) (x : FVec Ideal S1024x1 .f32) (r : Fin 1024) (k : Fin 2048) :
    codes v0 x (ix2 r k) = code (Ideal.exp2 (0 - x (ix2 r 0))) (v0 (ix2 r k)) := by
  unfold codes code
  pointwise
  simp only [ofBits_448, ofBits_neg448]
  rfl

theorem prod_apply (a : FVec Ideal S1024x2048 .fp8e4m3) (x : FVec Ideal S1024x1 .f32) (v37 : FVec Ideal S16x2048x1536 .fp8e4m3) (e : Fin 16) (r : Fin 1024) (n : Fin 1536) :
    prod a x v37 (ix3 e r n) = (∑ k : Fin 2048, a (ix2 r k) * v37 (ix3 e k n)) * x (ix2 r 0) := by
  unfold prod
  pointwise

/-- The first product of the reference at an index. -/
theorem pay2_apply (v0 : Vec Ideal S1024x2048 .bf16) (v37 : Vec Ideal S16x2048x1536 .fp8e4m3) (e : Fin 16) (r : Fin 1024) (n : Fin 1536) :
    k0_pay2 v0 v37 (ix3 e r n) =
      (∑ k : Fin 2048, code (rInv (amax fun k => v0 (ix2 r k))) (v0 (ix2 r k)) * v37 (ix3 e k n)) * rScale (amax fun k => v0 (ix2 r k)) := by
  rw [pay2_eq, prod_apply]
  simp only [codes_apply, expo_apply, big_apply]
  have he : ∀ x : FVec Ideal S1024x1 .f32, exp2 x (ix2 r 0) = Ideal.exp2 (x (ix2 r 0)) := fun _ => rfl
  rw [he, expo_apply, big_apply]
  rfl

/-! ## An expert's activation, its codes and scale -/

/-- The activation. -/
theorem act_apply (v41 : FVec Ideal S16x1024x1536 .f32) (v42 : Vec Ideal S16x1x1536 .f32) (e : Fin 16) (r : Fin 1024) (n : Fin 768) :
    k0_pay3 v41 v42 (ix3 e r n) = (fun h : Fin 1536 → EReal => h ⟨n.val, by omega⟩ * FloatOps.logistic (F := Ideal) (φ := .f32) (h ⟨n.val, by omega⟩) * h ⟨768 + n.val, by omega⟩)
      fun j => v41 (ix3 e r j) * v42 (ix3 e 0 j) := by
  pointwise [k0_pay3]

/-- The largest magnitude of each token's activation in each expert. -/
def big3 (u : FVec Ideal S16x1024x768 .f32) : FVec Ideal S16x1024x1 .f32 :=
  shapeCast S16x1024x1 (multiReduction .maximumf [2] S16x1024 (absf u) 0xFF800000#32 reduces_S16x1024x768_S16x1024 (.inl rfl) rfl) shapeCasts_S16x1024_S16x1024x1

def cands3 (v53 : FVec Ideal S16x1024x1 .f32) : FVec Ideal S16x1024x270 .f32 :=
  have v55 : FVec Ideal S16x1024x1 .f32 := mulf v53 (broadcast S16x1024x1 (Scalar.ofBits .f32 0x3B124925#32))
  have v59 : FVec Ideal S16x1024x270 .f32 := sitofp .f32 (subi (iota .tc S16x1024x270 32 [2] iota_S16x1024x270_d2_w32) (broadcast S16x1024x270 148#32))
  select (cmpf .ogt (exp2 v59) (broadcastTo S16x1024x270 v55 broadcasts_S16x1024x1_S16x1024x270)) v59 (broadcast S16x1024x270 (Scalar.ofBits .f32 0x42F20000#32))

def expo3 (v53 : FVec Ideal S16x1024x1 .f32) : FVec Ideal S16x1024x1 .f32 :=
  select (cmpf .oeq v53 (broadcast S16x1024x1 (Scalar.ofBits .f32 0x00000000#32))) (broadcast S16x1024x1 (Scalar.ofBits .f32 0x00000000#32))
    (shapeCast S16x1024x1 (multiReduction .minimumf [2] S16x1024 (cands3 v53) 0x7F800000#32 reduces_S16x1024x270_S16x1024 (.inl rfl) rfl) shapeCasts_S16x1024_S16x1024x1)

def codes3 (u : FVec Ideal S16x1024x768 .f32) (v70 : FVec Ideal S16x1024x1 .f32) : FVec Ideal S16x1024x768 .fp8e4m3 :=
  have v76 : FVec Ideal S16x1024x768 .f32 := mulf u (broadcastTo S16x1024x768 (exp2 (subf (broadcast S16x1024x1 (Scalar.ofBits .f32 0x00000000#32)) v70)) broadcasts_S16x1024x1_S16x1024x768)
  truncf .fp8e4m3 (minimumf (broadcast S16x1024x768 (Scalar.ofBits .f32 0x43E00000#32)) (maximumf (broadcast S16x1024x768 (Scalar.ofBits .f32 0xC3E00000#32)) v76)) bitsLt_fp8e4m3_f32

def prod3 (a : FVec Ideal S16x1024x768 .fp8e4m3) (v82 : FVec Ideal S16x768x2048 .fp8e4m3) : FVec Ideal S16x1024x2048 .f32 :=
  matmul dot_S16x1024x768_S16x768x2048_S16x1024x2048_2_1_1_2_0_0 none a v82 (constant S16x1024x2048 .f32 0x00000000#32)

theorem pay4_eq (v41 : FVec Ideal S16x1024x1536 .f32) (v42 : Vec Ideal S16x1x1536 .f32) : k0_pay4 v41 v42 = expo3 (big3 (k0_pay3 v41 v42)) := rfl

theorem pay6_eq (v41 : FVec Ideal S16x1024x1536 .f32) (v42 : Vec Ideal S16x1x1536 .f32) (v82 : Vec Ideal S16x768x2048 .fp8e4m3) :
    k0_pay6 v41 v42 v82 = prod3 (codes3 (k0_pay3 v41 v42) (k0_pay4 v41 v42)) v82 := rfl

/-- A table cast to columns, at an index. -/
theorem col3_apply (u : FVec Ideal S16x1024 .f32) (e : Fin 16) (r : Fin 1024) : shapeCast S16x1024x1 u shapeCasts_S16x1024_S16x1024x1 (ix3 e r 0) = u (ix2 e r) := by
  pointwise

theorem big3_apply (u : FVec Ideal S16x1024x768 .f32) (e : Fin 16) (r : Fin 1024) : big3 u (ix3 e r 0) = amax fun n => u (ix3 e r n) :=
  (col3_apply _ e r).trans (amax_slab u reduces_S16x1024x768_S16x1024 e r)

theorem cands3_apply (v53 : FVec Ideal S16x1024x1 .f32) (e : Fin 16) (r : Fin 1024) (k : Fin 270) :
    cands3 v53 (ix3 e r k) = if v53 (ix3 e r 0) * cQ < Ideal.exp2 (rK k) then rK k else ((121 : ℝ) : EReal) := by
  unfold cands3 cQ rK
  pointwise
  have hs : (FloatOps.sitofp (F := Ideal) FTy.f32 (BitVec.ofNat 32 k.val - 148#32) : EReal) = ((((((k : ℕ) : ℤ) - 148 : ℤ) : ℝ)) : EReal) := by
    rw [← place_val k]; rfl
  simp only [IntOp.subi, hs, ofBits_121]
  rfl

theorem expo3_apply (v53 : FVec Ideal S16x1024x1 .f32) (e : Fin 16) (r : Fin 1024) : expo3 v53 (ix3 e r 0) = rE (v53 (ix3 e r 0)) := by
  unfold expo3 rE
  have h := (col3_apply _ e r).trans (least_slab (cands3 v53) reduces_S16x1024x270_S16x1024 e r)
  simp only [cands3_apply] at h
  rw [← h]
  generalize shapeCast S16x1024x1 (multiReduction .minimumf [2] S16x1024 (cands3 v53) 0x7F800000#32 reduces_S16x1024x270_S16x1024 (.inl rfl) rfl) shapeCasts_S16x1024_S16x1024x1 = u
  pointwise

theorem codes3_apply (u : FVec Ideal S16x1024x768 .f32) (x : FVec Ideal S16x1024x1 .f32) (e : Fin 16) (r : Fin 1024) (n : Fin 768) :
    codes3 u x (ix3 e r n) = code (Ideal.exp2 (0 - x (ix3 e r 0))) (u (ix3 e r n)) := by
  unfold codes3 code
  pointwise
  simp only [ofBits_448, ofBits_neg448]
  rfl

theorem prod3_apply (a : FVec Ideal S16x1024x768 .fp8e4m3) (v82 : FVec Ideal S16x768x2048 .fp8e4m3) (e : Fin 16) (r : Fin 1024) (q : Fin 2048) :
    prod3 a v82 (ix3 e r q) = ∑ n : Fin 768, a (ix3 e r n) * v82 (ix3 e n q) := by
  unfold prod3
  pointwise

/-! ## The sum over the experts -/

/-- An expert's addend, before the sum. -/
def parts (v71 : FVec Ideal S16x1024x1 .f32) (v83 : FVec Ideal S16x1024x2048 .f32) (v84 : Vec Ideal S16x1024x1 .f32) (v89 : Vec Ideal S16x1x2048 .f32) : FVec Ideal S16x1024x2048 .f32 :=
  mulf (mulf v83 (broadcastTo S16x1024x2048 (mulf v71 (shapeCast S16x1024x1 v84 shapeCasts_S16x1024x1_S16x1024x1)) broadcasts_S16x1024x1_S16x1024x2048))
    (broadcastTo S16x1024x2048 (shapeCast S16x1x2048 v89 shapeCasts_S16x1x2048_S16x1x2048) broadcasts_S16x1x2048_S16x1024x2048)

theorem parts_apply (v71 : FVec Ideal S16x1024x1 .f32) (v83 : FVec Ideal S16x1024x2048 .f32) (v84 : Vec Ideal S16x1024x1 .f32) (v89 : Vec Ideal S16x1x2048 .f32)
    (e : Fin 16) (r : Fin 1024) (q : Fin 2048) :
    parts v71 v83 v84 v89 (ix3 e r q) = v83 (ix3 e r q) * (v71 (ix3 e r 0) * v84 (ix3 e r 0)) * v89 (ix3 e 0 q) := by
  pointwise [parts]

theorem pay1_apply (v71 : FVec Ideal S16x1024x1 .f32) (v83 : FVec Ideal S16x1024x2048 .f32) (v84 : Vec Ideal S16x1024x1 .f32) (v89 : Vec Ideal S16x1x2048 .f32) (r : Fin 1024) (q : Fin 2048) :
    k0_pay1 v71 v83 v84 v89 (ix2 r q) = ∑ e : Fin 16, v83 (ix3 e r q) * (v71 (ix3 e r 0) * v84 (ix3 e r 0)) * v89 (ix3 e 0 q) := by
  have h : k0_pay1 v71 v83 v84 v89 (ix2 r q) = multiReduction .add [0] S1024x2048 (parts v71 v83 v84 v89) 0x00000000#32 reduces_S16x1024x2048_S1024x2048 (.inl rfl) rfl (ix2 r q) := rfl
  rw [h]
  refine (sum_slabs _ reduces_S16x1024x2048_S1024x2048 r q).trans ?_
  simp only [parts_apply]

end Cert.ReferenceIdeal.Read

end
-- ==== Proof.ReferenceRun.lean ====
module

public import proofs.«01_k».proof.Proof.HostGates
public import proofs.«01_k».proof.Proof.Reference
public import Idealize.ShloMosaic.Lib.Pipeline.ValueKit
public import Idealize.ShloMosaic.Lib.Claim

@[expose] public section
noncomputable section
namespace Cert.ReferenceIdeal.Read
open Cert.ReferenceIdeal Cert.ReferenceIdeal.Gen Idealize.ShloMosaic Idealize.ShloMosaic.TcCoe Idealize.SL.Sem
open Cert.ReferenceIdeal.Value Cert.Quantiser Cert.Gates
variable (m : (ℓ : Loc nD τ sig) → Buf (Elt Ideal) ℓ) (c : Dev nD)

/-- The tokens as the reference sees them. -/
def toks : Vec Ideal S1024x2048 .bf16 := shapeCast S1024x2048 (m ((c : Thread nD τ).loc main_arg0)) shapeCasts_S4x256x2048_S1024x2048

theorem entry_0 : V m c main_v0 = toks m c := by
  show StableHlo.after ([hostOps0, hostOps0_1, hostOps0_2].flatten) (fun b => m (c, b)) (Proc.tc.devRef main_v0) = _
  simp only [List.flatten_cons, List.flatten_nil, List.append_nil, hostOps0, hostOps0_1, hostOps0_2, List.cons_append, List.nil_append]
  entry_read
  rfl
theorem entry_3 : V m c main_v24 = (broadcastInDim S16x1x1536 ![0, 2] bcast_S16x1536_S16x1x1536_0_2 (m ((c : Thread nD τ).loc main_arg3)) : Vec Ideal S16x1x1536 .f32) := by
  show StableHlo.after ([hostOps0, hostOps0_1, hostOps0_2].flatten) (fun b => m (c, b)) (Proc.tc.devRef main_v24) = _
  simp only [List.flatten_cons, List.flatten_nil, List.append_nil, hostOps0, hostOps0_1, hostOps0_2, List.cons_append, List.nil_append]
  entry_read
  rfl
theorem entry_5 : V m c main_v25 = (broadcastInDim S16x1x2048 ![0, 2] bcast_S16x2048_S16x1x2048_0_2 (m ((c : Thread nD τ).loc main_arg5)) : Vec Ideal S16x1x2048 .f32) := by
  show StableHlo.after ([hostOps0, hostOps0_1, hostOps0_2].flatten) (fun b => m (c, b)) (Proc.tc.devRef main_v25) = _
  simp only [List.flatten_cons, List.flatten_nil, List.append_nil, hostOps0, hostOps0_1, hostOps0_2, List.cons_append, List.nil_append]
  entry_read
  rfl
theorem entry_1 : V m c main_v23 = gatesH (logitsH (toks m c) (m ((c : Thread nD τ).loc main_arg1))) := by
  show StableHlo.after ([hostOps0, hostOps0_1, hostOps0_2].flatten) (fun b => m (c, b)) (Proc.tc.devRef main_v23) = _
  simp only [List.flatten_cons, List.flatten_nil, List.append_nil, hostOps0, hostOps0_1, hostOps0_2, List.cons_append, List.nil_append]
  entry_read
  simp only [StableHlo.TRef.ofBuf_toBuf, StableHlo.TRef.toBuf, StableHlo.TRef.ofBuf, cast_eq]
  unfold gatesH spreadH placesH overH expH topH logitsH toks
  rfl

theorem index_0 : ∀ t : Fin cfg0.N, win0_0.index t = ![0, 0] := by decide +kernel
theorem index_1 : ∀ t : Fin cfg0.N, win0_1.index t = ![0, 0, 0] := by decide +kernel
theorem index_2 : ∀ t : Fin cfg0.N, win0_2.index t = ![0, 0, 0] := by decide +kernel
theorem index_3 : ∀ t : Fin cfg0.N, win0_3.index t = ![0, 0, 0] := by decide +kernel
theorem index_4 : ∀ t : Fin cfg0.N, win0_4.index t = ![0, 0, 0] := by decide +kernel
theorem index_5 : ∀ t : Fin cfg0.N, win0_5.index t = ![0, 0, 0] := by decide +kernel
theorem index_6 : ∀ t : Fin cfg0.N, win0_6.index t = ![0, 0] := by decide +kernel

theorem blk_0 (t : Fin cfg0.N) (r : Fin 1024) (k : Fin 2048) : (iblk m c 0 t : Vec Ideal S1024x2048 .bf16) (ix2 r k) = toks m c (ix2 r k) := by
  blk_ext [iblk, entry_0, index_0 t]
theorem blk_1 (t : Fin cfg0.N) (e : Fin 16) (r : Fin 1024) :
    (iblk m c 1 t : Vec Ideal S16x1024x1 .f32) (ix3 e r 0) = gatesH (logitsH (toks m c) (m ((c : Thread nD τ).loc main_arg1))) (ix3 e r 0) := by
  refine Eq.trans (b := (V m c main_v23 : Vec Ideal S16x1024x1 .f32) (ix3 e r 0)) ?_ (congrFun (entry_1 m c) _)
  blk_ext [iblk, index_1 t]
theorem blk_2 (t : Fin cfg0.N) (e : Fin 16) (k : Fin 2048) (n : Fin 1536) :
    (iblk m c 2 t : Vec Ideal S16x2048x1536 .fp8e4m3) (ix3 e k n) = m ((c : Thread nD τ).loc main_arg2) (ix3 e k n) := by
  blk_ext [iblk, V_main_arg2, index_2 t]
theorem blk_3 (t : Fin cfg0.N) (e : Fin 16) (n : Fin 1536) :
    (iblk m c 3 t : Vec Ideal S16x1x1536 .f32) (ix3 e 0 n) = m ((c : Thread nD τ).loc main_arg3) (ix2 e n) := by
  refine Eq.trans (b := (V m c main_v24 : Vec Ideal S16x1x1536 .f32) (ix3 e 0 n)) ?_ ?_
  · blk_ext [iblk, index_3 t]
  · rw [entry_3]; pointwise
theorem blk_4 (t : Fin cfg0.N) (e : Fin 16) (n : Fin 768) (q : Fin 2048) :
    (iblk m c 4 t : Vec Ideal S16x768x2048 .fp8e4m3) (ix3 e n q) = m ((c : Thread nD τ).loc main_arg4) (ix3 e n q) := by
  blk_ext [iblk, V_main_arg4, index_4 t]
theorem blk_5 (t : Fin cfg0.N) (e : Fin 16) (q : Fin 2048) :
    (iblk m c 5 t : Vec Ideal S16x1x2048 .f32) (ix3 e 0 q) = m ((c : Thread nD τ).loc main_arg5) (ix2 e q) := by
  refine Eq.trans (b := (V m c main_v25 : Vec Ideal S16x1x2048 .f32) (ix3 e 0 q)) ?_ ?_
  · blk_ext [iblk, index_5 t]
  · rw [entry_5]; pointwise

/-- The output array is `G` when what the body computes from its blocks is `G`. -/
theorem result_of (G : Vec Ideal S1024x2048 .bf16)
    (hG : ∀ (t : Fin cfg0.N) (y : S1024x2048.Idx),
      k0_pay1 (k0_pay5 (k0_pay2 (iblk m c 0 t) (iblk m c 2 t)) (iblk m c 3 t)) (k0_pay6 (k0_pay2 (iblk m c 0 t) (iblk m c 2 t)) (iblk m c 3 t) (iblk m c 4 t))
        (iblk m c 1 t) (iblk m c 5 t) y = G y) :
    (dats m 0 c).arrAt 6 (cfgs 0).N = G := by
  refine (dats m 0 c).arrAt_eq_of_covers 6 _ (by decide +kernel) fun t hf y => ?_
  blk_simp; rw [after0_6]; unfold_out out0_6; frame_out
  refine (hG t y).trans (congrArg G ?_)
  have hy : ∀ y : S1024x2048.Idx, y = ((View.whole main_v26).slice (win0_6.rect t)).emb y := fun y => by blk_ext [index_6 t]
  exact hy y

/-! ## The value of the body -/

/-- An expert's hidden row: the token's codes times its weights, scaled back. -/
def hid (x : Fin 2048 → EReal) (w1 : Fin 2048 → Fin 1536 → EReal) (s1 : Fin 1536 → EReal) (j : Fin 1536) : EReal :=
  (∑ k, code (rInv (amax x)) (x k) * w1 k j) * rScale (amax x) * s1 j

/-- The activation of a hidden row. -/
def act (h : Fin 1536 → EReal) (n : Fin 768) : EReal :=
  h ⟨n.val, by omega⟩ * FloatOps.logistic (F := Ideal) (φ := .f32) (h ⟨n.val, by omega⟩) * h ⟨768 + n.val, by omega⟩

/-- An expert's part of an output: the activation's codes times its weights, scaled back and by the gate. -/
def part (a : Fin 768 → EReal) (g : EReal) (w2 : Fin 768 → EReal) (s2 : EReal) : EReal :=
  (∑ n, code (rInv (amax a)) (a n) * w2 n) * (rScale (amax a) * g) * s2

theorem body_apply (x0 : Vec Ideal S1024x2048 .bf16) (x1 : Vec Ideal S16x1024x1 .f32) (x2 : Vec Ideal S16x2048x1536 .fp8e4m3)
    (x3 : Vec Ideal S16x1x1536 .f32) (x4 : Vec Ideal S16x768x2048 .fp8e4m3) (x5 : Vec Ideal S16x1x2048 .f32) (r : Fin 1024) (q : Fin 2048) :
    k0_pay1 (k0_pay5 (k0_pay2 x0 x2) x3) (k0_pay6 (k0_pay2 x0 x2) x3 x4) x1 x5 (ix2 r q) =
      ∑ e, part (act (hid (fun k => x0 (ix2 r k)) (fun k j => x2 (ix3 e k j)) fun j => x3 (ix3 e 0 j))) (x1 (ix3 e r 0))
        (fun n => x4 (ix3 e n q)) (x5 (ix3 e 0 q)) := by
  rw [pay1_apply]
  refine Finset.sum_congr rfl fun e _ => ?_
  have ha : ∀ n, k0_pay3 (k0_pay2 x0 x2) x3 (ix3 e r n) = act (hid (fun k => x0 (ix2 r k)) (fun k j => x2 (ix3 e k j)) fun j => x3 (ix3 e 0 j)) n := by
    intro n
    rw [act_apply]
    simp only [pay2_apply]
    rfl
  have hx : k0_pay4 (k0_pay2 x0 x2) x3 (ix3 e r 0) = rE (amax (act (hid (fun k => x0 (ix2 r k)) (fun k j => x2 (ix3 e k j)) fun j => x3 (ix3 e 0 j)))) := by
    rw [pay4_eq, expo3_apply, big3_apply, funext ha]
  have h5 : k0_pay5 (k0_pay2 x0 x2) x3 (ix3 e r 0) = Ideal.exp2 (k0_pay4 (k0_pay2 x0 x2) x3 (ix3 e r 0)) := by
    have he : ∀ x : FVec Ideal S16x1024x1 .f32, exp2 x (ix3 e r 0) = Ideal.exp2 (x (ix3 e r 0)) := fun _ => rfl
    exact he _
  rw [h5, hx, pay6_eq, prod3_apply]
  simp only [codes3_apply, hx, ha]
  rfl

theorem result_apply : (dats m 0 c).arrAt 6 (cfgs 0).N = (fun i => ∑ e : Fin 16,
    part (act (hid (fun k => toks m c (ix2 (i 0) k)) (fun k j => m ((c : Thread nD τ).loc main_arg2) (ix3 e k j)) fun j => m ((c : Thread nD τ).loc main_arg3) (ix2 e j)))
      (rGate (fun e => ∑ k : Fin 2048, toks m c (ix2 (i 0) k) * m ((c : Thread nD τ).loc main_arg1) (ix2 k e)) e)
      (fun n => m ((c : Thread nD τ).loc main_arg4) (ix3 e n (i 1))) (m ((c : Thread nD τ).loc main_arg5) (ix2 e (i 1))) : Vec Ideal S1024x2048 .bf16) := by
  refine result_of m c _ fun t y => ?_
  idx_vars y
  generalize y0 = r
  generalize y1 = q
  refine (body_apply _ _ _ _ _ _ r q).trans (Finset.sum_congr rfl fun e _ => ?_)
  have hg : (iblk m c 1 t : Vec Ideal S16x1024x1 .f32) (ix3 e r 0) = rGate (fun e => ∑ k : Fin 2048, toks m c (ix2 r k) * m ((c : Thread nD τ).loc main_arg1) (ix2 k e)) e := by
    rw [blk_1, gatesH_apply]
    simp only [logitsH_apply]
  have h0 : (fun k : Fin 2048 => (iblk m c 0 t : Vec Ideal S1024x2048 .bf16) (ix2 r k)) = fun k => toks m c (ix2 r k) := funext (blk_0 m c t r)
  have h2 : (fun (k : Fin 2048) (j : Fin 1536) => (iblk m c 2 t : Vec Ideal S16x2048x1536 .fp8e4m3) (ix3 e k j)) = fun k j => m ((c : Thread nD τ).loc main_arg2) (ix3 e k j) :=
    funext fun k => funext (blk_2 m c t e k)
  have h3 : (fun j : Fin 1536 => (iblk m c 3 t : Vec Ideal S16x1x1536 .f32) (ix3 e 0 j)) = fun j => m ((c : Thread nD τ).loc main_arg3) (ix2 e j) := funext (blk_3 m c t e)
  have h4 : (fun n : Fin 768 => (iblk m c 4 t : Vec Ideal S16x768x2048 .fp8e4m3) (ix3 e n q)) = fun n => m ((c : Thread nD τ).loc main_arg4) (ix3 e n q) :=
    funext fun n => blk_4 m c t e n q
  rw [hg, h0, h2, h3, h4, blk_5]

end Cert.ReferenceIdeal.Read
-- ==== Proof.Agree.lean ====
/-
  The kernel and the reference agree: an expert's part of an output is the same number in both, once each quantised sum is
  scaled back, and the gates are the same for finite tokens and a finite router.
-/
module

public import proofs.«01_k».proof.Proof.KernelLogits
public import proofs.«01_k».proof.Proof.KernelFold
public import proofs.«01_k».proof.Proof.ReferenceRun
public import proofs.«01_k».proof.Pre_finite
public import proofs.«01_k».proof.Proof.Gen.Pre_finite

@[expose] public section

noncomputable section

namespace Cert.Agree

open Cert.Quantiser Cert.Gates Idealize.ShloMosaic Idealize.ShloMosaic.TcCoe Idealize.SL.Sem
open Cert.KernelIdeal.Rows (up actOf out addend)
open Cert.ReferenceIdeal.Read (hid act part)

/-! ## The precondition -/

/-- A number whose magnitude is below another is finite. -/
theorem real_of_lt {φ : FTy} {a b : EReal} (h : FloatOps.cmpf (F := Ideal) (φ := φ) .olt (FloatOps.hostAbsf (F := Ideal) (φ := φ) a) b = 1#1) : ∃ r : ℝ, a = r := by
  have h' : max a (-a) < b := by
    by_contra hn
    have : FloatOps.cmpf (F := Ideal) (φ := φ) .olt (FloatOps.hostAbsf (F := Ideal) (φ := φ) a) b = 0#1 := by
      show Ideal.cmp .olt (max a (-a)) b = 0#1
      simp [Ideal.cmp, hn]
    rw [this] at h
    exact absurd h (by decide)
  induction a using EReal.rec with
  | bot => simp at h'
  | top => simp at h'
  | coe r => exact ⟨r, rfl⟩

/-- What the precondition says: every entry of the tokens and of the router is finite. -/
theorem pre_real (x : FVec Ideal Pre_finite.S4x256x2048 .bf16) (w : FVec Ideal Pre_finite.S2048x16 .f32) (w1 : FVec Ideal Pre_finite.S16x2048x1536 .fp8e4m3)
    (s1 : FVec Ideal Pre_finite.S16x1536 .f32) (w2 : FVec Ideal Pre_finite.S16x768x2048 .fp8e4m3) (s2 : FVec Ideal Pre_finite.S16x2048 .f32)
    (h : (Pre_finite.fn x w w1 s1 w2 s2).1 = (fun _ => 1#1) ∧ (Pre_finite.fn x w w1 s1 w2 s2).2 = fun _ => 1#1) :
    (∀ i, ∃ r : ℝ, x i = r) ∧ ∀ i, ∃ r : ℝ, w i = r :=
  ⟨fun i => real_of_lt (φ := .bf16) (congrFun h.1 i), fun i => real_of_lt (φ := .f32) (congrFun h.2 i)⟩

/-- A sum of products of finite numbers is finite. -/
theorem sum_real {n : ℕ} (a b : Fin n → EReal) (ha : ∀ k, ∃ r : ℝ, a k = r) (hb : ∀ k, ∃ r : ℝ, b k = r) : ∃ r : ℝ, ∑ k, a k * b k = r := by
  choose f hf using ha
  choose g hg using hb
  refine ⟨∑ k, f k * g k, ?_⟩
  have hc : ∀ s : Finset (Fin n), ∑ k ∈ s, a k * b k = ((∑ k ∈ s, f k * g k : ℝ) : EReal) := fun s => by
    induction s using Finset.induction with
    | empty => simp
    | insert k s hk ih => rw [Finset.sum_insert hk, Finset.sum_insert hk, ih, hf, hg, EReal.coe_add, EReal.coe_mul]
  exact hc _

/-! ## One expert -/

theorem up_eq (x : Fin 2048 → EReal) (w1 : Fin 2048 → Fin 1536 → EReal) (s1 : Fin 1536 → EReal) :
    up (fun k => code (kInv (amax x)) (x k)) (kScale (amax x)) w1 s1 = hid x w1 s1 := by
  funext n
  exact congrArg (· * s1 n) (quant_dot (by norm_num) x fun k => w1 k n)

theorem act_eq : actOf = act := rfl

theorem out_eq (a : Fin 768 → EReal) (g : EReal) (w2 : Fin 768 → EReal) (s2 : EReal) : out a g w2 s2 = part a g w2 s2 := by
  unfold out part
  rw [← mul_assoc, ← mul_assoc, quant_dot (by norm_num) a w2]

/-- The reference adds nothing where the gate is zero, which is where the kernel leaves the expert out. -/
theorem part_zero (a : Fin 768 → EReal) (w2 : Fin 768 → EReal) (s2 : EReal) : part a 0 w2 s2 = 0 := by
  unfold part
  rw [mul_zero, mul_zero, zero_mul]

theorem guard_eq (a : Fin 768 → EReal) (g : EReal) (hg : 0 ≤ g) (w2 : Fin 768 → EReal) (s2 : EReal) : (if 0 < g then out a g w2 s2 else 0) = part a g w2 s2 := by
  split_ifs with h
  · exact out_eq a g w2 s2
  · rw [le_antisymm (not_lt.mp h) hg, part_zero]

/-! ## The results -/

section
open Cert.KernelIdeal Cert.KernelIdeal.Gen Cert.KernelIdeal.Read

variable (m : (ℓ : Loc nD τ sig) → Buf (Elt Ideal) ℓ) (c : Dev nD)

/-- The kernel's result, an expert at a time, in the reference's terms. -/
theorem kernel_apply (hx : ∀ i, ∃ r : ℝ, toks m c i = r) (hw : ∀ i, ∃ r : ℝ, (router m c : Vec Ideal S2048x16 .f32) i = r) (r : Fin 1024) (q : Fin 2048) :
    ((Value.G6 m c : Vec Ideal S1024x2048 .bf16) (ix2 r q) : EReal) = ∑ e : Fin 16,
      part (act (hid (fun k => toks m c (ix2 r k)) (fun k j => m ((c : Thread nD τ).loc main_arg2) (ix3 e k j)) fun j => m ((c : Thread nD τ).loc main_arg3) (ix2 e j)))
        (rGate (fun e => ∑ k : Fin 2048, toks m c (ix2 r k) * (router m c : Vec Ideal S2048x16 .f32) (ix2 k e)) e)
        (fun n => m ((c : Thread nD τ).loc main_arg4) (ix3 e n q)) (m ((c : Thread nD τ).loc main_arg5) (ix2 e q)) := by
  refine Eq.trans (b := (∑ e : Fin 16, term m c (e.cast N_0.symm) r q : EReal)) (result_apply m c r q) ?_
  refine Finset.sum_congr rfl fun e _ => ?_
  have hl : ∀ e : Fin 16, ∃ s : ℝ, ∑ k : Fin 2048, toks m c (ix2 r k) * (router m c : Vec Ideal S2048x16 .f32) (ix2 k e) = s :=
    fun e => sum_real _ _ (fun k => hx _) fun k => hw _
  have hc : grid0.coords (e.cast N_0.symm) 0 = e := Fin.ext (coord_val _)
  have h0 : (0 : EReal) ≤ rGate (fun e => ∑ k : Fin 2048, toks m c (ix2 r k) * (router m c : Vec Ideal S2048x16 .f32) (ix2 k e)) e := by
    obtain ⟨s, hs, h, -⟩ := kGate_real _ hl e
    rw [gate_eq _ hl e, hs]
    exact_mod_cast h
  refine Eq.trans ?_ (guard_eq _ _ h0 _ _)
  have hg : gatesX (toks m c) (router m c) (ix2 r (grid0.coords (e.cast N_0.symm) 0)) =
      rGate (fun e => ∑ k : Fin 2048, toks m c (ix2 r k) * (router m c : Vec Ideal S2048x16 .f32) (ix2 k e)) e := by
    rw [hc, gatesX_apply, gate_eq _ hl e]
  have h2 : (fun (k : Fin 2048) (n : Fin 1536) => (iblk m c 2 (e.cast N_0.symm) : Vec Ideal S1x2048x1536 .fp8e4m3) (ix3 0 k n)) = fun k n => m ((c : Thread nD τ).loc main_arg2) (ix3 e k n) :=
    funext fun k => funext fun n => by rw [blk_2, hc]
  have h3 : (fun n : Fin 1536 => (iblk m c 3 (e.cast N_0.symm) : Vec Ideal S1x1x1536 .f32) (ix3 0 0 n)) = fun n => m ((c : Thread nD τ).loc main_arg3) (ix2 e n) :=
    funext fun n => by rw [blk_3, hc]
  have h4 : (fun n : Fin 768 => (iblk m c 4 (e.cast N_0.symm) : Vec Ideal S1x768x2048 .fp8e4m3) (ix3 0 n q)) = fun n => m ((c : Thread nD τ).loc main_arg4) (ix3 e n q) :=
    funext fun n => by rw [blk_4, hc]
  have h5 : (iblk m c 5 (e.cast N_0.symm) : Vec Ideal S1x1x2048 .f32) (ix3 0 0 q) = m ((c : Thread nD τ).loc main_arg5) (ix2 e q) := by rw [blk_5, hc]
  have ha : (fun k : Fin 2048 => codesX (toks m c) (ix2 r k)) = fun k => code (kInv (amax fun k => toks m c (ix2 r k))) (toks m c (ix2 r k)) :=
    funext fun k => codesX_apply (toks m c) r k
  unfold term addend
  rw [hg, h2, h3, h4, h5, ha, scaleX_apply, up_eq, act_eq]
end

/-- From arguments that agree, the reference's result array is the kernel's. -/
theorem results_eq (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (c : Dev KernelIdeal.nD) (hp : (Pre_finite.fn (F := Ideal) (m ((c : Thread KernelIdeal.nD KernelIdeal.τ).loc KernelIdeal.main_arg0)) (m ((c : Thread KernelIdeal.nD KernelIdeal.τ).loc KernelIdeal.main_arg1))
        (m ((c : Thread KernelIdeal.nD KernelIdeal.τ).loc KernelIdeal.main_arg2)) (m ((c : Thread KernelIdeal.nD KernelIdeal.τ).loc KernelIdeal.main_arg3))
        (m ((c : Thread KernelIdeal.nD KernelIdeal.τ).loc KernelIdeal.main_arg4)) (m ((c : Thread KernelIdeal.nD KernelIdeal.τ).loc KernelIdeal.main_arg5))).1 = (fun _ => 1#1)
      ∧ (Pre_finite.fn (F := Ideal) (m ((c : Thread KernelIdeal.nD KernelIdeal.τ).loc KernelIdeal.main_arg0)) (m ((c : Thread KernelIdeal.nD KernelIdeal.τ).loc KernelIdeal.main_arg1))
        (m ((c : Thread KernelIdeal.nD KernelIdeal.τ).loc KernelIdeal.main_arg2)) (m ((c : Thread KernelIdeal.nD KernelIdeal.τ).loc KernelIdeal.main_arg3))
        (m ((c : Thread KernelIdeal.nD KernelIdeal.τ).loc KernelIdeal.main_arg4)) (m ((c : Thread KernelIdeal.nD KernelIdeal.τ).loc KernelIdeal.main_arg5))).2 = fun _ => 1#1)
    (h0 : m' ((c : Thread ReferenceIdeal.nD ReferenceIdeal.τ).loc ReferenceIdeal.main_arg0) = m ((c : Thread KernelIdeal.nD KernelIdeal.τ).loc KernelIdeal.main_arg0))
    (h1 : m' ((c : Thread ReferenceIdeal.nD ReferenceIdeal.τ).loc ReferenceIdeal.main_arg1) = m ((c : Thread KernelIdeal.nD KernelIdeal.τ).loc KernelIdeal.main_arg1))
    (h2 : m' ((c : Thread ReferenceIdeal.nD ReferenceIdeal.τ).loc ReferenceIdeal.main_arg2) = m ((c : Thread KernelIdeal.nD KernelIdeal.τ).loc KernelIdeal.main_arg2))
    (h3 : m' ((c : Thread ReferenceIdeal.nD ReferenceIdeal.τ).loc ReferenceIdeal.main_arg3) = m ((c : Thread KernelIdeal.nD KernelIdeal.τ).loc KernelIdeal.main_arg3))
    (h4 : m' ((c : Thread ReferenceIdeal.nD ReferenceIdeal.τ).loc ReferenceIdeal.main_arg4) = m ((c : Thread KernelIdeal.nD KernelIdeal.τ).loc KernelIdeal.main_arg4))
    (h5 : m' ((c : Thread ReferenceIdeal.nD ReferenceIdeal.τ).loc ReferenceIdeal.main_arg5) = m ((c : Thread KernelIdeal.nD KernelIdeal.τ).loc KernelIdeal.main_arg5)) :
    (ReferenceIdeal.Gen.dats m' 0 c).arrAt 6 (ReferenceIdeal.cfgs 0).N = KernelIdeal.Value.G6 m c := by
  obtain ⟨hx, hw⟩ := pre_real _ _ _ _ _ _ hp
  rw [ReferenceIdeal.Read.result_apply]
  have ht : ReferenceIdeal.Read.toks m' c = KernelIdeal.Read.toks m c :=
    congrArg (fun x => shapeCast KernelIdeal.S1024x2048 x KernelIdeal.Gen.shapeCasts_S4x256x2048_S1024x2048) h0
  rw [ht, h1, h2, h3, h4, h5]
  funext i
  refine Eq.trans ?_ ((kernel_apply m c (fun j => ?_) hw (i 0) (i 1)).symm.trans (congrArg (KernelIdeal.Value.G6 m c) ?_))
  · rfl
  · exact hx _
  · funext a
    match a with
    | ⟨0, _⟩ => rfl
    | ⟨1, _⟩ => rfl

end Cert.Agree
-- ==== Proof.lean ====
module

public import proofs.«01_k».proof.Proof.Gen.KernelIdeal.Value
public import proofs.«01_k».proof.Proof.Gen.ReferenceIdeal.Value
public import proofs.«01_k».proof.Defs
public import proofs.«01_k».proof.Proof.Agree
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The two programs' results agree for finite tokens and a finite router. -/
theorem algebraic : Cert.algebraic_KernelIdeal_ReferenceIdeal_pre_finite := by
  intro m ρ m' ρ' hp hagree
  refine ⟨fun c => Cert.KernelIdeal.Value.G6 m c, Cert.KernelIdeal.Value.run m ρ, ?_⟩
  refine (θ_run Cert.ReferenceIdeal.defs _ _).mono (fun r h c => ⟨(h c).1.trans ?_, (h c).2⟩) (Cert.ReferenceIdeal.Value.run_blocks m' ρ')
  obtain ⟨h0, h1, h2, h3, h4, h5⟩ := hagree c
  exact Cert.Agree.results_eq m m' c (hp c) h0 h1 h2 h3 h4 h5

theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial, algebraic⟩

end Cert.Proof

end
